-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 128, 16, 64]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 128, 16, 64]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x1024 : Shape := ⟨2, ![512, 1024]⟩
abbrev S2x128x4x64 : Shape := ⟨4, ![2, 128, 4, 64]⟩
abbrev S1024x512 : Shape := ⟨2, ![1024, 512]⟩
abbrev S4x2x128x512 : Shape := ⟨4, ![4, 2, 128, 512]⟩
abbrev S3 : Shape := ⟨1, ![3]⟩
abbrev S_ : Shape := ⟨0, ![]⟩
abbrev S512x256 : Shape := ⟨2, ![512, 256]⟩
abbrev S256x512 : Shape := ⟨2, ![256, 512]⟩
abbrev S128x128 : Shape := ⟨2, ![128, 128]⟩
abbrev S1x128x512 : Shape := ⟨3, ![1, 128, 512]⟩
abbrev S128x512 : Shape := ⟨2, ![128, 512]⟩
abbrev S128x256 : Shape := ⟨2, ![128, 256]⟩
abbrev S128x4x64 : Shape := ⟨3, ![128, 4, 64]⟩
abbrev S128x1x64 : Shape := ⟨3, ![128, 1, 64]⟩
abbrev S128x64 : Shape := ⟨2, ![128, 64]⟩
abbrev S1x128x1x64 : Shape := ⟨4, ![1, 128, 1, 64]⟩
abbrev S128 : Shape := ⟨1, ![128]⟩
abbrev S128x1 : Shape := ⟨2, ![128, 1]⟩
abbrev S1x1x128x512 : Shape := ⟨4, ![1, 1, 128, 512]⟩
abbrev S1 : Shape := ⟨1, ![1]⟩
abbrev S1x2x128x512 : Shape := ⟨4, ![1, 2, 128, 512]⟩

abbrev nBuf : Space → Nat
  | .hbm => 6
  | .vmem => 7
  | .smem => 0
  | _ => 0

abbrev bufTy : (tb : Table) → Fin (tcTables nBuf tb) → BufTy
  | .hbm, ⟨0, _⟩ => ⟨S2x128x512, .bf16⟩
  | .hbm, ⟨1, _⟩ => ⟨S512x1024, .bf16⟩
  | .hbm, ⟨2, _⟩ => ⟨S2x128x4x64, .bf16⟩
  | .hbm, ⟨3, _⟩ => ⟨S2x128x4x64, .bf16⟩
  | .hbm, ⟨4, _⟩ => ⟨S1024x512, .bf16⟩
  | .hbm, ⟨5, _⟩ => ⟨S2x128x512, .f32⟩
  | .local _ .vmem, ⟨0, _⟩ => ⟨S2x128x512, .bf16⟩
  | .local _ .vmem, ⟨1, _⟩ => ⟨S512x1024, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S1024x512, .bf16⟩
  | .local _ .vmem, ⟨5, _⟩ => ⟨S2x128x512, .f32⟩
  | .local _ .vmem, ⟨6, _⟩ => ⟨S4x2x128x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v11 : BitVec 32 := Scalar.muli v4 c1_i32_8
  let v12 : BitVec 32 := Scalar.addi c0_i32_9 v11
  v12.toNat
def k0_off1 (d0 : Dev nD) : Fin 2 → Nat :=
  let c0 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v13 : BitVec 32 := Scalar.muli v2 c256_i32
  let v14 : Index := Scalar.indexCast v13
  ![0, v14.toNat]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_10 : BitVec 32 := 256#32
  let v17 : BitVec 32 := Scalar.muli v2 c256_i32_10
  let v18 : Index := Scalar.indexCast v17
  let c0_11 : Index := 0#32
  ![v18.toNat, 0]
def k0_dev3 (d0 : Dev nD) : Nat :=
  let c0_i32_164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_163 : BitVec 32 := 1#32
  let v293 : BitVec 32 := Scalar.muli v4 c1_i32_163
  let v294 : BitVec 32 := Scalar.addi c0_i32_164 v293
  v294.toNat
def k0_dev4 (d0 : Dev nD) : Nat :=
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_208 : BitVec 32 := 1#32
  let v324 : BitVec 32 := Scalar.muli v4 c1_i32_208
  let v325 : BitVec 32 := Scalar.addi c0_i32_209 v324
  v325.toNat
def k0_dev5 (d0 : Dev nD) : Nat :=
  let c0_i32_254 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_253 : BitVec 32 := 1#32
  let v355 : BitVec 32 := Scalar.muli v4 c1_i32_253
  let v356 : BitVec 32 := Scalar.addi c0_i32_254 v355
  v356.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S2x128x1024 : Shape := ⟨3, ![2, 128, 1024]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x16x128x128 : Shape := ⟨4, ![2, 16, 128, 128]⟩
abbrev S1x1x128x128 : Shape := ⟨4, ![1, 1, 128, 128]⟩
abbrev S2x16x128 : Shape := ⟨3, ![2, 16, 128]⟩
abbrev S2x16x128x1 : Shape := ⟨4, ![2, 16, 128, 1]⟩
abbrev S1x1x128x1 : Shape := ⟨4, ![1, 1, 128, 1]⟩
abbrev S2x16x64x128 : Shape := ⟨4, ![2, 16, 64, 128]⟩

abbrev nBuf : Space → Nat
  | .hbm => 128
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x1024, .bf16⟩
  | .hbm, ⟨2, _⟩ => ⟨S2x128x16x64, .bf16⟩
  | .hbm, ⟨3, _⟩ => ⟨S2x128x16x64, .bf16⟩
  | .hbm, ⟨4, _⟩ => ⟨S1024x512, .bf16⟩
  | .hbm, ⟨5, _⟩ => ⟨S2x128x512, .f32⟩
  | .hbm, ⟨6, _⟩ => ⟨S512x1024, .f32⟩
  | .hbm, ⟨7, _⟩ => ⟨S2x128x16x64, .f32⟩
  | .hbm, ⟨8, _⟩ => ⟨S2x128x16x64, .f32⟩
  | .hbm, ⟨9, _⟩ => ⟨S1024x512, .f32⟩
  | .hbm, ⟨10, _⟩ => ⟨S2x128x1024, .f32⟩
  | .hbm, ⟨11, _⟩ => ⟨S2x128x16x64, .f32⟩
  | .hbm, ⟨12, _⟩ => ⟨S128, .i32⟩
  | .hbm, ⟨13, _⟩ => ⟨S_, .i32⟩
  | .hbm, ⟨14, _⟩ => ⟨S_, .i32⟩
  | .hbm, ⟨15, _⟩ => ⟨S128, .i32⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i32⟩
  | .hbm, ⟨22, _⟩ => ⟨S128, .i32⟩
  | .hbm, ⟨23, _⟩ => ⟨S_, .i32⟩
  | .hbm, ⟨24, _⟩ => ⟨S128, .i32⟩
  | .hbm, ⟨25, _⟩ => ⟨S128, .i1⟩
  | .hbm, ⟨26, _⟩ => ⟨S128, .i1⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S128, .i32⟩
  | .hbm, ⟨31, _⟩ => ⟨S128x1, .i32⟩
  | .hbm, ⟨32, _⟩ => ⟨S128, .i32⟩
  | .hbm, ⟨33, _⟩ => ⟨S_, .i32⟩
  | .hbm, ⟨34, _⟩ => ⟨S_, .i32⟩
  | .hbm, ⟨35, _⟩ => ⟨S128, .i32⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i32⟩
  | .hbm, ⟨42, _⟩ => ⟨S128, .i32⟩
  | .hbm, ⟨43, _⟩ => ⟨S_, .i32⟩
  | .hbm, ⟨44, _⟩ => ⟨S128, .i32⟩
  | .hbm, ⟨45, _⟩ => ⟨S128, .i1⟩
  | .hbm, ⟨46, _⟩ => ⟨S128, .i1⟩
  | .hbm, ⟨47, _⟩ => ⟨S_, .i32⟩
  | .hbm, ⟨48, _⟩ => ⟨S128, .i32⟩
  | .hbm, ⟨49, _⟩ => ⟨S128, .i32⟩
  | .hbm, ⟨50, _⟩ => ⟨S128, .i32⟩
  | .hbm, ⟨51, _⟩ => ⟨S1x128, .i32⟩
  | .hbm, ⟨52, _⟩ => ⟨S128x128, .i32⟩
  | .hbm, ⟨53, _⟩ => ⟨S128x128, .i32⟩
  | .hbm, ⟨54, _⟩ => ⟨S128x128, .i1⟩
  | .hbm, ⟨55, _⟩ => ⟨S_, .i32⟩
  | .hbm, ⟨56, _⟩ => ⟨S1x128, .i32⟩
  | .hbm, ⟨57, _⟩ => ⟨S1x128, .i1⟩
  | .hbm, ⟨58, _⟩ => ⟨S128x128, .i1⟩
  | .hbm, ⟨59, _⟩ => ⟨S128x128, .i1⟩
  | .hbm, ⟨60, _⟩ => ⟨S128x128, .i32⟩
  | .hbm, ⟨61, _⟩ => ⟨S128x128, .i32⟩
  | .hbm, ⟨62, _⟩ => ⟨S128x128, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S128x128, .i32⟩
  | .hbm, ⟨70, _⟩ => ⟨S128x128, .i32⟩
  | .hbm, ⟨71, _⟩ => ⟨S_, .i32⟩
  | .hbm, ⟨72, _⟩ => ⟨S128x128, .i32⟩
  | .hbm, ⟨73, _⟩ => ⟨S128x128, .i1⟩
  | .hbm, ⟨74, _⟩ => ⟨S_, .i32⟩
  | .hbm, ⟨75, _⟩ => ⟨S128x128, .i32⟩
  | .hbm, ⟨76, _⟩ => ⟨S128x128, .i1⟩
  | .hbm, ⟨77, _⟩ => ⟨S_, .i32⟩
  | .hbm, ⟨78, _⟩ => ⟨S_, .i1⟩
  | .hbm, ⟨79, _⟩ => ⟨S128x128, .i1⟩
  | .hbm, ⟨80, _⟩ => ⟨S128x128, .i1⟩
  | .hbm, ⟨81, _⟩ => ⟨S128x128, .i1⟩
  | .hbm, ⟨82, _⟩ => ⟨S128x128, .i32⟩
  | .hbm, ⟨83, _⟩ => ⟨S128x128, .i32⟩
  | .hbm, ⟨84, _⟩ => ⟨S128x128, .i32⟩
  | .hbm, ⟨85, _⟩ => ⟨S_, .i32⟩
  | .hbm, ⟨86, _⟩ => ⟨S128x128, .i32⟩
  | .hbm, ⟨87, _⟩ => ⟨S128x128, .i1⟩
  | .hbm, ⟨88, _⟩ => ⟨S128x128, .i1⟩
  | .hbm, ⟨89, _⟩ => ⟨S2x16x128x128, .f32⟩
  | .hbm, ⟨90, _⟩ => ⟨S_, .f32⟩
  | .hbm, ⟨91, _⟩ => ⟨S2x16x128x128, .f32⟩
  | .hbm, ⟨92, _⟩ => ⟨S2x16x128x128, .f32⟩
  | .hbm, ⟨93, _⟩ => ⟨S1x1x128x128, .i1⟩
  | .hbm, ⟨94, _⟩ => ⟨S_, .f32⟩
  | .hbm, ⟨95, _⟩ => ⟨S_, .f32⟩
  | .hbm, ⟨96, _⟩ => ⟨S2x16x128x128, .i1⟩
  | .hbm, ⟨97, _⟩ => ⟨S2x16x128x128, .f32⟩
  | .hbm, ⟨98, _⟩ => ⟨S2x16x128x128, .f32⟩
  | .hbm, ⟨99, _⟩ => ⟨S_, .f32⟩
  | .hbm, ⟨100, _⟩ => ⟨S2x16x128, .f32⟩
  | .hbm, ⟨101, _⟩ => ⟨S2x16x128x1, .f32⟩
  | .hbm, ⟨102, _⟩ => ⟨S2x16x128x128, .f32⟩
  | .hbm, ⟨103, _⟩ => ⟨S2x16x128x128, .f32⟩
  | .hbm, ⟨104, _⟩ => ⟨S2x16x128x128, .f32⟩
  | .hbm, ⟨105, _⟩ => ⟨S_, .i1⟩
  | .hbm, ⟨106, _⟩ => ⟨S128, .i1⟩
  | .hbm, ⟨107, _⟩ => ⟨S1x1x128x1, .i1⟩
  | .hbm, ⟨108, _⟩ => ⟨S_, .f32⟩
  | .hbm, ⟨109, _⟩ => ⟨S2x16x128, .f32⟩
  | .hbm, ⟨110, _⟩ => ⟨S2x16x128x1, .f32⟩
  | .hbm, ⟨111, _⟩ => ⟨S_, .f32⟩
  | .hbm, ⟨112, _⟩ => ⟨S_, .f32⟩
  | .hbm, ⟨113, _⟩ => ⟨S2x16x128x1, .i1⟩
  | .hbm, ⟨114, _⟩ => ⟨S2x16x128x1, .f32⟩
  | .hbm, ⟨115, _⟩ => ⟨S2x16x128x1, .f32⟩
  | .hbm, ⟨116, _⟩ => ⟨S2x16x128x128, .f32⟩
  | .hbm, ⟨117, _⟩ => ⟨S2x16x128x128, .f32⟩
  | .hbm, ⟨118, _⟩ => ⟨S1x1x128x1, .i1⟩
  | .hbm, ⟨119, _⟩ => ⟨S_, .f32⟩
  | .hbm, ⟨120, _⟩ => ⟨S_, .f32⟩
  | .hbm, ⟨121, _⟩ => ⟨S2x16x128x128, .i1⟩
  | .hbm, ⟨122, _⟩ => ⟨S2x16x128x128, .f32⟩
  | .hbm, ⟨123, _⟩ => ⟨S2x16x128x128, .f32⟩
  | .hbm, ⟨124, _⟩ => ⟨S2x16x64x128, .f32⟩
  | .hbm, ⟨125, _⟩ => ⟨S2x128x16x64, .f32⟩
  | .hbm, ⟨126, _⟩ => ⟨S2x128x1024, .f32⟩
  | .hbm, ⟨127, _⟩ => ⟨S2x128x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v23 : Ref sig .tc := ⟨.hbm, 84, rfl⟩
abbrev main_c_3 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_4 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v31 : Ref sig .tc := ⟨.hbm, 98, rfl⟩
abbrev main_cst_5 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_c_6 : Ref sig .tc := ⟨.hbm, 105, rfl⟩
abbrev main_v37 : Ref sig .tc := ⟨.hbm, 106, rfl⟩
abbrev main_v38 : Ref sig .tc := ⟨.hbm, 107, rfl⟩
abbrev main_cst_7 : Ref sig .tc := ⟨.hbm, 108, rfl⟩
abbrev main_v39 : Ref sig .tc := ⟨.hbm, 109, rfl⟩
abbrev main_v40 : Ref sig .tc := ⟨.hbm, 110, rfl⟩
abbrev main_cst_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Attn.lean ====
/-
Sparse attention over the extended reals, on plain indices: what both programs compute.
-/
module

public import Idealize.ShloMosaic.Lib.Pointwise

@[expose] public section

noncomputable section

namespace Cert.RingAttn

open Idealize.ShloMosaic
open scoped BigOperators

/-! ## The mask -/

/-- The block a row lies in. -/
def blk (i : Fin 128) : BitVec 32 := if i.val < 64 then 0#32 else 1#32

/-- Which pairs of a query's and a key's row the mask allows. -/
def mk (i j : Fin 128) : BitVec 1 := if i.val < 64 ∧ 64 ≤ j.val then 0#1 else 1#1

/-! ## Attention -/

/-- A row's scores: the scaled products where the mask allows, else the low value. -/
def sc (mk : Fin 128 → Fin 128 → BitVec 1) (q k : Fin 128 → Fin 64 → EReal) (i j : Fin 128) : EReal :=
  Scalar.select (mk i j) ((∑ d : Fin 64, q i d * k j d) * Ideal.ofBits .f32 0x3E000000#32) (Ideal.ofBits .f32 0xCE6E6B28#32)

/-- The weights before they are normalized. -/
def wt (mk : Fin 128 → Fin 128 → BitVec 1) (q k : Fin 128 → Fin 64 → EReal) (i j : Fin 128) : EReal :=
  Ideal.exp (sc mk q k i j - Finset.univ.fold max (Ideal.ofBits .f32 0xFF800000#32) (sc mk q k i))

/-- One head of attention. -/
def attn (mk : Fin 128 → Fin 128 → BitVec 1) (q k v : Fin 128 → Fin 64 → EReal) (i : Fin 128) (d : Fin 64) : EReal :=
  ∑ j : Fin 128, Ideal.div (wt mk q k i j) (∑ j' : Fin 128, wt mk q k i j') * v j d

/-! ## Columns and heads -/

/-- Where head `h`'s column `d` lies among the device's 256. -/
def col (h : Fin 4) (d : Fin 64) : Fin 256 := ⟨h.val * 64 + d.val, by omega⟩

/-- Where device `c`'s column `n` lies among the 1024. -/
def gcol (c : Fin 4) (n : Fin 256) : Fin 1024 := ⟨256 * c.val + n.val, by omega⟩
/-- The place of device `c`'s head `h` among the sixteen heads. -/
def ghead (c h : Fin 4) : Fin 16 := ⟨c.val * 4 + h.val, by omega⟩
/-- The place of head `h`'s column `d` among the 1024 columns. -/
def full (h : Fin 16) (d : Fin 64) : Fin 1024 := ⟨h.val * 64 + d.val, by omega⟩

/-- A device's column among all columns is its head's column. -/
theorem gcol_col (c h : Fin 4) (d : Fin 64) : gcol c (col h d) = full (ghead c h) d :=
  Fin.ext (show 256 * c.val + (h.val * 64 + d.val) = (c.val * 4 + h.val) * 64 + d.val by omega)

/-- A sum over `m * n` places is the sum over `m` runs of `n` places each. -/
theorem sum_runs {m n N : ℕ} (hN : N = m * n) (f : Fin N → EReal) (g : Fin m → Fin n → Fin N)
    (hg : ∀ a b, (g a b).val = a.val * n + b.val) : ∑ x : Fin N, f x = ∑ a : Fin m, ∑ b : Fin n, f (g a b) := by
  subst hN
  rw [← Equiv.sum_comp finProdFinEquiv f, Fintype.sum_prod_type]
  refine Finset.sum_congr rfl fun a _ => Finset.sum_congr rfl fun b _ => congrArg f (Fin.ext ?_)
  rw [hg]
  show b.val + n * a.val = a.val * n + b.val
  rw [Nat.mul_comm, Nat.add_comm]

/-! ## The whole result -/

section Whole
variable (x : Fin 2 → Fin 128 → Fin 512 → EReal) (wq : Fin 512 → Fin 1024 → EReal) (k v : Fin 2 → Fin 128 → Fin 16 → Fin 64 → EReal)
  (wo : Fin 1024 → Fin 512 → EReal)

/-- Head `h` of batch `b`, whose queries are `x`'s products with the head's columns of `wq`. -/
def headVal (b : Fin 2) (h : Fin 16) (i : Fin 128) (d : Fin 64) : EReal :=
  attn mk (fun i d => ∑ e : Fin 512, x b i e * wq e (full h d)) (fun i d => k b i h d) (fun i d => v b i h d) i d

/-- What head `h` adds to the result. -/
def headOut (b : Fin 2) (i : Fin 128) (o : Fin 512) (h : Fin 16) : EReal :=
  ∑ d : Fin 64, headVal x wq k v b h i d * wo (full h d) o

/-- What device `c`'s four heads add to the result. -/
def devOut (b : Fin 2) (i : Fin 128) (o : Fin 512) (c : Fin 4) : EReal := ∑ h : Fin 4, headOut x wq k v wo b i o (ghead c h)

/-- The result: what all sixteen heads add up to. -/
def whole (b : Fin 2) (i : Fin 128) (o : Fin 512) : EReal := ∑ h : Fin 16, headOut x wq k v wo b i o h

/-- The result is the sum of the four devices' parts. -/
theorem whole_eq_sum (b : Fin 2) (i : Fin 128) (o : Fin 512) : whole x wq k v wo b i o = ∑ c : Fin 4, devOut x wq k v wo b i o c :=
  sum_runs (m := 4) (n := 4) rfl _ ghead fun _ _ => rfl

end Whole

end Cert.RingAttn

end
-- ==== Proof.Cells.lean ====
/-
The signalling between the four devices: which semaphores are used, who raises each of them and how far,
what a raise hands over, and in which order a device may wait.

Every device holds four slots of a scratch buffer. Slot 0 is filled by the device itself; slot `k + 1` of a device
is filled by its left neighbour from slot `k`. Before the first transfer each device tells both neighbours that
it has arrived, and the word to the left neighbour also hands over slots 1, 2 and 3.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds' resource. -/
abbrev UB : Type := URounds (GSem nD τ sig) Bool
/-- The pipeline's resource beside the rounds'. -/
abbrev UU : Type := UR sig nD τ × UB

local notation "𝕄" => MT nD τ sig Unit (Elt F) ℕ UU ℕ

/-- Where the pipeline's resource lies. -/
abbrev EP : Emb (UR sig nD τ) (MT nD τ sig Unit (Elt F) ℕ UU ℕ) := embL
/-- Where the rounds' resource lies. -/
abbrev ER : Emb UB (MT nD τ sig Unit (Elt F) ℕ UU ℕ) := embR

/-! ## The ring of devices -/

set_option backward.proofsInPublic true in
/-- The right neighbour. -/
def rgt (c : Dev nD) : Dev nD := ⟨(c.val + 1) % 4, Nat.mod_lt _ (by decide)⟩
set_option backward.proofsInPublic true in
/-- The left neighbour. -/
def lft (c : Dev nD) : Dev nD := ⟨(c.val + 3) % 4, Nat.mod_lt _ (by decide)⟩
set_option backward.proofsInPublic true in
/-- The device `k` places to the left. -/
def back (c : Dev nD) (k : Fin 4) : Dev nD := ⟨(c.val + (4 - k.val)) % 4, Nat.mod_lt _ (by decide)⟩

/-- Left of the right neighbour is the device itself. -/
theorem lft_rgt (c : Dev nD) : lft (rgt c) = c := by revert c; decide
/-- Right of the left neighbour is the device itself. -/
theorem rgt_lft (c : Dev nD) : rgt (lft c) = c := by revert c; decide
/-- No places to the left is the device itself. -/
theorem back_zero (c : Dev nD) : back c 0 = c := by revert c; decide
/-- One place further left, seen from one place further right, is the same device. -/
theorem back_rgt (c : Dev nD) (h : Fin 3) : back (rgt c) h.succ = back c h.castSucc := by revert c h; decide

/-- The first signal goes to the left neighbour. -/
theorem dev1_eq (c : Dev nD) : (⟨k0_dev1 c, k0_dev1_lt c⟩ : Dev nD) = lft c := Fin.ext (k0_dev1_eq c)
/-- The second signal goes to the right neighbour. -/
theorem dev2_eq (c : Dev nD) : (⟨k0_dev2 c, k0_dev2_lt c⟩ : Dev nD) = rgt c := Fin.ext (k0_dev2_eq c)
/-- Hop 0 sends to the right neighbour. -/
theorem dev3_eq (c : Dev nD) : (⟨k0_dev3 c, k0_dev3_lt c⟩ : Dev nD) = rgt c := Fin.ext (k0_dev3_eq c)
/-- Hop 1 sends to the right neighbour. -/
theorem dev4_eq (c : Dev nD) : (⟨k0_dev4 c, k0_dev4_lt c⟩ : Dev nD) = rgt c := Fin.ext (k0_dev4_eq c)
/-- Hop 2 sends to the right neighbour. -/
theorem dev5_eq (c : Dev nD) : (⟨k0_dev5 c, k0_dev5_lt c⟩ : Dev nD) = rgt c := Fin.ext (k0_dev5_eq c)

/-- Right and left are inverse to each other. -/
def ring : Dev nD ≃ Dev nD := ⟨rgt, lft, lft_rgt, rgt_lft⟩

/-! ## The slots of the scratch buffer -/

/-- Every slot lies within the scratch buffer. -/
theorem slot_inb : ∀ k : Fin 4, ∀ a : Fin 4, (![k.val, 0, 0, 0] : Fin 4 → ℕ) a + S1x2x128x512.size a ≤ S4x2x128x512.size a := by decide

/-- The rectangle of slot `k`. -/
abbrev slotRect (k : Fin 4) : Rect S4x2x128x512 := Rect.unit (s := S4x2x128x512) ![k.val, 0, 0, 0] S1x2x128x512.size (slot_inb k)

/-- The scratch buffer seen through slot `k`. -/
abbrev slotM (k : Fin 4) : Memref sig .tc .vmem S2x128x512 .bf16 :=
  ((Memref.whole cc0_scratch0).slice (slotRect k) (fun _ => rfl)).squeeze S2x128x512 squeezes_S1x2x128x512_S2x128x512

/-- The elements of slot `k`. -/
abbrev slotSet (k : Fin 4) : Finset S4x2x128x512.Idx := (slotRect k).set

/-- A slot's view covers the slot's set. -/
theorem slotM_set (k : Fin 4) : (slotM k).view.set = slotSet k := by
  exact (View.set_reshape _ _).trans (View.set_slice_whole cc0_scratch0 (slotRect k))

/-- An index lies in a slot when its first coordinate is the slot's number. -/
theorem mem_slotSet (k : Fin 4) (i : S4x2x128x512.Idx) : i ∈ slotSet k ↔ (i 0 : ℕ) = k.val := by
  rw [Rect.mem_set_unit]
  constructor
  · intro h
    have := h 0
    change k.val ≤ (i 0 : ℕ) ∧ (i 0 : ℕ) < k.val + 1 at this
    omega
  · intro h a
    fin_cases a
    · change k.val ≤ (i 0 : ℕ) ∧ (i 0 : ℕ) < k.val + 1; omega
    · change 0 ≤ (i 1 : ℕ) ∧ (i 1 : ℕ) < 0 + 2; exact ⟨Nat.zero_le _, by have := (i 1).isLt; change (i 1 : ℕ) < 2 at this; omega⟩
    · change 0 ≤ (i 2 : ℕ) ∧ (i 2 : ℕ) < 0 + 128; exact ⟨Nat.zero_le _, by have := (i 2).isLt; change (i 2 : ℕ) < 128 at this; omega⟩
    · change 0 ≤ (i 3 : ℕ) ∧ (i 3 : ℕ) < 0 + 512; exact ⟨Nat.zero_le _, by have := (i 3).isLt; change (i 3 : ℕ) < 512 at this; omega⟩

/-- The contents of the scratch buffer. -/
abbrev Scr (F : FTy → Type) : Type := (cc0_scratch0 : Ref sig .tc).ty.Contents (Elt F)

/-- Device `c` holds slot `k` of its scratch buffer at contents `f`. -/
def slotPts (c : Dev nD) (k : Fin 4) (f : Scr F) : sProp 𝕄 :=
  ((c : Thread nD τ).loc cc0_scratch0) ↦[slotSet k]{fullShare} f

omit [FloatOps F] in
/-- A slot's points-to may be kept in an invariant. -/
instance slotPts_storable (c : Dev nD) (k : Fin 4) (f : Scr F) : BI.Storable (upEmb : UEmb _ 𝕄) (slotPts (F := F) c k f) := by
  unfold slotPts; infer_instance

omit [FloatOps F] in
/-- Only the contents on the slot matter. -/
theorem slotPts_congr (c : Dev nD) (k : Fin 4) {f g : Scr F} (h : ∀ i ∈ slotSet k, f i = g i) :
    (slotPts c k f : sProp 𝕄) = slotPts c k g := pointsTo_congr h

/-- The four slots make up the buffer. -/
theorem slots_univ : (Finset.univ : Finset S4x2x128x512.Idx) = Finset.univ.biUnion slotSet := by
  refine (Finset.eq_univ_iff_forall.mpr fun i => Finset.mem_biUnion.mpr ⟨i 0, Finset.mem_univ _, ?_⟩).symm
  exact (mem_slotSet (i 0) i).mpr rfl

/-- Different slots share nothing. -/
theorem slots_disjoint (t t' : Fin 4) (hne : t ≠ t') : Disjoint (slotSet t) (slotSet t') :=
  Finset.disjoint_left.mpr fun i hi hi' =>
    hne (Fin.ext (((mem_slotSet t i).mp hi).symm.trans ((mem_slotSet t' i).mp hi')))

omit [FloatOps F] in
/-- Four resources, one for each of four numbers. -/
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- The whole scratch buffer is its four slots. -/
theorem scratch_slots (c : Dev nD) (f : Scr F) :
    ((((c : Thread nD τ).loc cc0_scratch0) ↦{fullShare} f : sProp 𝕄))
      = iprop(slotPts c 0 f ∗ slotPts c 1 f ∗ slotPts c 2 f ∗ slotPts c 3 f) := by
  have h1 : ((((c : Thread nD τ).loc cc0_scratch0) ↦[Finset.univ.biUnion slotSet]{fullShare} f : sProp 𝕄))
      = bigSep Finset.univ fun k => slotPts c k f :=
    pointsTo_biUnion (ℓ := (c : Thread nD τ).loc cc0_scratch0) Finset.univ slotSet fun t _ t' _ => slots_disjoint t t'
  have h0 : ((((c : Thread nD τ).loc cc0_scratch0) ↦{fullShare} f : sProp 𝕄))
      = (((c : Thread nD τ).loc cc0_scratch0) ↦[Finset.univ.biUnion slotSet]{fullShare} f) :=
    congrArg (fun S : Finset S4x2x128x512.Idx => (((c : Thread nD τ).loc cc0_scratch0) ↦[S]{fullShare} f : sProp 𝕄)) slots_univ
  rw [h0, h1, bigSep_fin4]

/-! ## The semaphores -/

/-- The barrier semaphore. -/
abbrev barS : Sem sig := (SemArray.scalar (sig.barrier 0 rfl) : Sems sig S_).sem
set_option backward.proofsInPublic true in
/-- The semaphore of hop `h` raised when the sender's slot has been read. -/
abbrev sendS (h : Fin 3) : DmaSem sig := ⟨6 + h.val, by have := h.isLt; change 6 + h.val < 12; omega⟩
set_option backward.proofsInPublic true in
/-- The semaphore of hop `h` raised when the receiver's slot has been written. -/
abbrev recvS (h : Fin 3) : DmaSem sig := ⟨9 + h.val, by have := h.isLt; change 9 + h.val < 12; omega⟩

/-- A device's barrier cell. -/
abbrev barCell (c : Dev nD) : GSem nD τ sig := ((c : Thread nD τ), .reg barS)
/-- A device's send cell of a hop. -/
abbrev sendCell (c : Dev nD) (h : Fin 3) : GSem nD τ sig := ((c : Thread nD τ), .dma (sendS h))
/-- A device's receive cell of a hop. -/
abbrev recvCell (c : Dev nD) (h : Fin 3) : GSem nD τ sig := ((c : Thread nD τ), .dma (recvS h))

/-- The semaphores that belong to the kernel's own arrays. -/
abbrev osem : Fin 6 → SemLoc sig := fun
  | 0 => .dma (sendS 0) | 1 => .dma (sendS 1) | 2 => .dma (sendS 2) | 3 => .dma (recvS 0) | 4 => .dma (recvS 1) | 5 => .dma (recvS 2)
/-- All seven semaphores of a device. -/
abbrev csem : Fin 7 → SemLoc sig := fun
  | 0 => .reg barS | 1 => .dma (sendS 0) | 2 => .dma (sendS 1) | 3 => .dma (sendS 2)
  | 4 => .dma (recvS 0) | 5 => .dma (recvS 1) | 6 => .dma (recvS 2)
/-- The seven cells of a device, by number. -/
abbrev kcell (ck : Dev nD × Fin 7) : GSem nD τ sig := ((ck.1 : Thread nD τ), csem ck.2)
/-- The places of the transfers' semaphores among the seven. -/
abbrev sIx (h : Fin 3) : Fin 7 := match h with | 0 => 1 | 1 => 2 | 2 => 3
/-- The number of a hop's receive cell. -/
abbrev rIx (h : Fin 3) : Fin 7 := match h with | 0 => 4 | 1 => 5 | 2 => 6
/-- The send cell by its number. -/
theorem kcell_send (c : Dev nD) (h : Fin 3) : kcell (c, sIx h) = sendCell c h := by fin_cases h <;> rfl
/-- The receive cell by its number. -/
theorem kcell_recv (c : Dev nD) (h : Fin 3) : kcell (c, rIx h) = recvCell c h := by fin_cases h <;> rfl

/-- What one transfer raises its semaphores by. -/
abbrev N : ℕ := (slotM 0).view.dmaCredit
/-- A transfer's credit is not zero. -/
theorem N_pos : 0 < N := View.dmaCredit_pos _ (by decide)
/-- Every slot's transfer has the same credit. -/
theorem credit_eq (k : Fin 4) : (slotM k).view.dmaCredit = N := rfl

/-! ## What each raise hands over -/

/-- What the right neighbour's word hands over: its slots 1, 2 and 3. -/
def barPay (c : Dev nD) : sProp 𝕄 :=
  iprop(∃ f : Scr F, slotPts (rgt c) 1 f ∗ slotPts (rgt c) 2 f ∗ slotPts (rgt c) 3 f)

/-- The slot a transfer's semaphore speaks of: the sender's for 6, 7, 8, the receiver's for 9, 10, 11. -/
def slotOf (q : ℕ) : Fin 4 := ⟨(if q < 9 then q - 6 else q - 8) % 4, Nat.mod_lt _ (by decide)⟩
/-- A send cell hands back the slot its hop read. -/
theorem slotOf_send (h : Fin 3) : slotOf (sendS h).val = h.castSucc := by revert h; decide
/-- A receive cell hands over the slot its hop wrote. -/
theorem slotOf_recv (h : Fin 3) : slotOf (recvS h).val = h.succ := by revert h; decide

variable (R : Dev nD → Scr F)

/-- The duties on one semaphore: two on the barrier, one on each transfer's, none on the others. -/
def dut : SemLoc sig → Finset Bool
  | .reg _ => Finset.univ
  | .dma q => if 6 ≤ q.val then {false} else ∅

/-- The schedule, given what every device's scratch buffer holds in the end. -/
def sched : Rounds.Schedule (GSem nD τ sig) Bool 𝕄 where
  duties g r := if r = 0 ∧ g.1.2 = .tc then dut g.2 else ∅
  unitless _ := False
  amount g _ _ := match g.2 with
    | .reg _ => 1
    | .dma _ => N
  payload g _ d := match g.2 with
    | .reg _ => if d then barPay g.1.1 else iprop(emp)
    | .dma q => slotPts g.1.1 (slotOf q.val) (R g.1.1)
  amount_pos g _ _ _ := by
    rcases g with ⟨t, s | s⟩
    · exact Nat.one_pos
    · exact N_pos

/-- Every payload may be kept in an invariant. -/
instance sched_storable (g : GSem nD τ sig) (r : ℕ) (d : Bool) :
    BI.Storable (upEmb : UEmb _ 𝕄) ((sched (F := F) R).payload g r d) := by
  rcases g with ⟨t, s | s⟩
  · show BI.Storable upEmb (if d then barPay t.1 else iprop(emp))
    unfold barPay; split <;> infer_instance
  · show BI.Storable upEmb (slotPts t.1 (slotOf s.val) (R t.1))
    infer_instance

section Sched
variable (c : Dev nD) (h : Fin 3)

omit [FloatOps F] in
/-- Both neighbours pay at the barrier. -/
theorem duties_bar : (sched (F := F) R).duties (barCell c) 0 = Finset.univ := by
  dsimp only [sched]; exact if_pos ⟨rfl, rfl⟩
omit [FloatOps F] in
/-- One duty at a send cell. -/
theorem duties_send : (sched (F := F) R).duties (sendCell c h) 0 = {false} :=
  by dsimp only [sched]; rw [if_pos ⟨rfl, rfl⟩]; exact if_pos (Nat.le_add_right 6 h.val)
omit [FloatOps F] in
/-- One duty at a receive cell. -/
theorem duties_recv : (sched (F := F) R).duties (recvCell c h) 0 = {false} :=
  by dsimp only [sched]; rw [if_pos ⟨rfl, rfl⟩]; exact if_pos (show 6 ≤ 9 + h.val by omega)
omit [FloatOps F] in
/-- There is one round only. -/
theorem duties_later (g : GSem nD τ sig) : ∀ r, 1 ≤ r → (sched (F := F) R).duties g r = ∅ :=
  fun r hr => if_neg fun h => by omega

omit [FloatOps F] in
/-- A neighbour's word counts one. -/
theorem amount_bar (d : Bool) : (sched (F := F) R).amount (barCell c) 0 d = 1 := rfl
omit [FloatOps F] in
/-- A send pays the transfer's credit. -/
theorem amount_send (d : Bool) : (sched (F := F) R).amount (sendCell c h) 0 d = N := rfl
omit [FloatOps F] in
/-- A landing pays the transfer's credit. -/
theorem amount_recv (d : Bool) : (sched (F := F) R).amount (recvCell c h) 0 d = N := rfl

omit [FloatOps F] in
/-- The barrier waits for two. -/
theorem expect_bar : (sched (F := F) R).expect (barCell c) 0 = 2 := by
  unfold Schedule.expect Schedule.amountOf
  rw [duties_bar, Finset.sum_congr rfl fun d _ => amount_bar R c d, Finset.sum_const, Finset.card_univ, Fintype.card_bool, smul_eq_mul]
omit [FloatOps F] in
/-- A send cell waits for a transfer's credit. -/
theorem expect_send : (sched (F := F) R).expect (sendCell c h) 0 = N := by
  unfold Schedule.expect Schedule.amountOf; rw [duties_send, Finset.sum_singleton, amount_send]
omit [FloatOps F] in
/-- A receive cell waits for a transfer's credit. -/
theorem expect_recv : (sched (F := F) R).expect (recvCell c h) 0 = N := by
  unfold Schedule.expect Schedule.amountOf; rw [duties_recv, Finset.sum_singleton, amount_recv]

omit [FloatOps F] in
/-- What one neighbour hands over at the barrier. -/
theorem payload_bar_true : (sched (F := F) R).payload (barCell c) 0 true = barPay c := rfl
omit [FloatOps F] in
/-- The other hands over nothing. -/
theorem payload_bar_false : (sched (F := F) R).payload (barCell c) 0 false = iprop(emp) := rfl
omit [FloatOps F] in
/-- A finished send gives back the slot it read. -/
theorem payload_send (d : Bool) : (sched (F := F) R).payload (sendCell c h) 0 d = slotPts c h.castSucc (R c) := by
  show slotPts c (slotOf (sendS h).val) (R c) = _; rw [slotOf_send]
omit [FloatOps F] in
/-- A landing gives the slot it wrote. -/
theorem payload_recv (d : Bool) : (sched (F := F) R).payload (recvCell c h) 0 d = slotPts c h.succ (R c) := by
  show slotPts c (slotOf (recvS h).val) (R c) = _; rw [slotOf_recv]

omit [FloatOps F] in
/-- All that the barrier hands over. -/
theorem rest_bar : bigSep ((sched (F := F) R).duties (barCell c) 0 \ ∅) (fun d => (sched (F := F) R).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
omit [FloatOps F] in
/-- All that a send cell hands over. -/
theorem rest_send : bigSep ((sched (F := F) R).duties (sendCell c h) 0 \ ∅) (fun d => (sched (F := F) R).payload (sendCell c h) 0 d) = slotPts c h.castSucc (R c) := by
  rw [Finset.sdiff_empty, duties_send, bigSep_singleton, payload_send]
omit [FloatOps F] in
/-- All that a receive cell hands over. -/
theorem rest_recv : bigSep ((sched (F := F) R).duties (recvCell c h) 0 \ ∅) (fun d => (sched (F := F) R).payload (recvCell c h) 0 d) = slotPts c h.succ (R c) := by
  rw [Finset.sdiff_empty, duties_recv, bigSep_singleton, payload_recv]

end Sched

/-! ## What a device still owes, and the order of waits -/

/-- What device `c` owes its right neighbour's receive semaphores after hop `h` onwards. -/
def owe3 (c : Dev nD) : CellTallies nD τ sig Unit := 0 + tallyAt (recvCell (rgt c) 2) () N
/-- What a device owes before hop 1. -/
def owe2 (c : Dev nD) : CellTallies nD τ sig Unit := owe3 c + tallyAt (recvCell (rgt c) 1) () N
/-- What a device owes before hop 0. -/
def owe1 (c : Dev nD) : CellTallies nD τ sig Unit := owe2 c + tallyAt (recvCell (rgt c) 0) () N
/-- What a device owes after its first word. -/
def oweB (c : Dev nD) : CellTallies nD τ sig Unit := owe1 c + tallyAt (barCell (rgt c)) () 1
/-- Everything device `c` owes at the start. -/
def owe0 (c : Dev nD) : CellTallies nD τ sig Unit := oweB c + tallyAt (barCell (lft c)) () 1

/-- Every cell of a core has one level. -/
def L (g : GSem nD τ sig) : Finset Unit := if g.1.2 = .tc then {()} else ∅
/-- The level of a semaphore: a device waits only on semaphores below all it still owes. -/
def lv (g : GSem nD τ sig) (_ : Unit) : ℕ := match g.2 with
  | .reg _ => 1
  | .dma q => if q.val < 9 then 0 else q.val - 7

/-- The barrier's level. -/
theorem lv_bar (c : Dev nD) : lv (barCell c) () = 1 := rfl
/-- The send cells' level. -/
theorem lv_send (c : Dev nD) (h : Fin 3) : lv (sendCell c h) () = 0 := if_pos (show 6 + h.val < 9 by omega)
/-- The receive cells' levels rise with the hop. -/
theorem lv_recv (c : Dev nD) (h : Fin 3) : lv (recvCell c h) () = 2 + h.val :=
  (if_neg (show ¬ 9 + h.val < 9 by omega)).trans (show 9 + h.val - 7 = 2 + h.val by omega)

/-- No levels elsewhere than on the cores. -/
theorem L_of_ne (g : GSem nD τ sig) (h : g.1.2 ≠ .tc) : L g = ∅ := if_neg h
/-- One level on a core. -/
theorem L_tc (c : Dev nD) (sm : SemLoc sig) : L ((c : Thread nD τ), sm) = {()} := if_pos rfl

/-- What is owed lies on these cells only. -/
def Owed (O : CellTallies nD τ sig Unit) (S : List (GSem nD τ sig)) : Prop := ∀ g u, 0 < O g u → g ∈ S

/-- Nothing owed is owed nowhere. -/
theorem owed_zero (S : List (GSem nD τ sig)) : Owed 0 S := fun g u h => absurd h (Nat.lt_irrefl 0)

/-- One more duty, one more cell. -/
theorem owed_add {O : CellTallies nD τ sig Unit} {S : List (GSem nD τ sig)} (h : Owed O S) (g : GSem nD τ sig) (n : ℕ) :
    Owed (O + tallyAt g () n) (g :: S) := fun g' u hg => by
  rw [Pi.add_apply, Finsupp.add_apply, tallyAt_apply] at hg
  by_cases e : g' = g
  · exact e ▸ List.mem_cons_self
  · rw [if_neg (fun h' => e h'.1), Nat.add_zero] at hg
    exact List.mem_cons_of_mem _ (h g' u hg)

/-- Before hop 2 a device owes its right neighbour's last landing. -/
theorem owed3 (c : Dev nD) : Owed (owe3 c) [recvCell (rgt c) 2] := owed_add (owed_zero _) _ _
/-- Before hop 1 it owes two landings. -/
theorem owed2 (c : Dev nD) : Owed (owe2 c) [recvCell (rgt c) 1, recvCell (rgt c) 2] := owed_add (owed3 c) _ _
/-- Before hop 0 it owes three landings. -/
theorem owed1 (c : Dev nD) : Owed (owe1 c) [recvCell (rgt c) 0, recvCell (rgt c) 1, recvCell (rgt c) 2] := owed_add (owed2 c) _ _
/-- At the start it owes both words and the three landings. -/
theorem owed0 (c : Dev nD) : Owed (owe0 c) [barCell (lft c), barCell (rgt c), recvCell (rgt c) 0, recvCell (rgt c) 1, recvCell (rgt c) 2] :=
  owed_add (owed_add (owed1 c) _ _) _ _

omit [FloatOps F] in
/-- A device may wait on a semaphore whose level is below those of all the cells it owes. -/
theorem mayWait_of (c : Dev nD) (sm : SemLoc sig) (O : CellTallies nD τ sig Unit) (S : List (GSem nD τ sig)) (n : ℕ)
    (hO : Owed O S) (hS : ∀ g ∈ S, g.1.2 = .tc ∧ n < lv g ()) (hsm : lv ((c : Thread nD τ), sm) () ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [show L g = {()} from if_pos (hS g (hO g u hg)).1]; exact Finset.mem_singleton_self _)
    (fun p hp => by rw [Finset.mem_singleton.mp hp]; exact hsm)
    (fun g u hg => (hS g (hO g u hg)).2)

omit [FloatOps F] in
/-- A device may wait at the barrier. -/
theorem mayWait_bar (c : Dev nD) : (levAts L lv : sProp 𝕄) ⊢ MayWait (c : Thread nD τ) (.reg barS) () (owe1 c) :=
  mayWait_of c _ _ _ 1 (owed1 c)
    (by intro g hg; simp only [List.mem_cons, List.not_mem_nil, or_false] at hg
        rcases hg with rfl | rfl | rfl <;> exact ⟨rfl, by rw [lv_recv]; omega⟩)
    (le_of_eq (lv_bar c))

omit [FloatOps F] in
/-- A device may wait for its sends. -/
theorem mayWait_send (c : Dev nD) (h : Fin 3) (O : CellTallies nD τ sig Unit) (hO : O = owe2 c ∨ O = owe3 c ∨ O = 0) :
    (levAts L lv : sProp 𝕄) ⊢ MayWait (c : Thread nD τ) (.dma (sendS h)) () O := by
  have hS : ∀ g ∈ [recvCell (rgt c) 1, recvCell (rgt c) 2], g.1.2 = .tc ∧ 0 < lv g () := by
    intro g hg; simp only [List.mem_cons, List.not_mem_nil, or_false] at hg
    rcases hg with rfl | rfl <;> exact ⟨rfl, by rw [lv_recv]; omega⟩
  refine mayWait_of c _ _ [recvCell (rgt c) 1, recvCell (rgt c) 2] 0 ?_ hS (le_of_eq (lv_send c h))
  rcases hO with rfl | rfl | rfl
  · exact owed2 c
  · exact fun g u hg => List.mem_cons_of_mem _ (owed3 c g u hg)
  · exact owed_zero _

omit [FloatOps F] in
/-- A device may wait for hop 0's landing. -/
theorem mayWait_recv0 (c : Dev nD) : (levAts L lv : sProp 𝕄) ⊢ MayWait (c : Thread nD τ) (.dma (recvS 0)) () (owe2 c) :=
  mayWait_of c _ _ _ 2 (owed2 c)
    (by intro g hg; simp only [List.mem_cons, List.not_mem_nil, or_false] at hg
        rcases hg with rfl | rfl <;> exact ⟨rfl, by rw [lv_recv]; simp⟩)
    (le_of_eq (lv_recv c 0))

omit [FloatOps F] in
/-- A device may wait for hop 1's landing. -/
theorem mayWait_recv1 (c : Dev nD) : (levAts L lv : sProp 𝕄) ⊢ MayWait (c : Thread nD τ) (.dma (recvS 1)) () (owe3 c) :=
  mayWait_of c _ _ _ 3 (owed3 c)
    (by intro g hg; simp only [List.mem_cons, List.not_mem_nil, or_false] at hg
        subst hg; exact ⟨rfl, by rw [lv_recv]; simp⟩)
    (le_of_eq (lv_recv c 1))

omit [FloatOps F] in
/-- The waits for the staging transfers: their semaphores lie below everything owed. -/
theorem mayWait_stage (c : Dev nD) (q : DmaSem sig) (hq : q.val < 9) (O : CellTallies nD τ sig Unit) (hO : O = owe0 c ∨ O = 0) :
    (levAts L lv : sProp 𝕄) ⊢ MayWait (c : Thread nD τ) (.dma q) () O := by
  refine mayWait_of c _ _ [barCell (lft c), barCell (rgt c), recvCell (rgt c) 0, recvCell (rgt c) 1, recvCell (rgt c) 2] 0 ?_ ?_ (le_of_eq (if_pos hq))
  · rcases hO with rfl | rfl
    · exact owed0 c
    · exact owed_zero _
  · intro g hg; simp only [List.mem_cons, List.not_mem_nil, or_false] at hg
    rcases hg with rfl | rfl | rfl | rfl | rfl
    · exact ⟨rfl, by rw [lv_bar]; omega⟩
    · exact ⟨rfl, by rw [lv_bar]; omega⟩
    all_goals exact ⟨rfl, by rw [lv_recv]; omega⟩

end Cert.RingAttn

end
-- ==== Proof.Contents.lean ====
/-
What each device computes from the arrays it is given, and what its scratch buffer and its result hold in the end.
-/
module

public import proofs.«01_k».proof.Proof.Cells
public import Idealize.ShloMosaic.Lib.ValueIdxCore

@[expose] public section

noncomputable section

namespace Cert.RingAttn

open Cert.KernelIdeal Cert.KernelIdeal.Gen

open Idealize.ShloMosaic
open Idealize.ShloMosaic.TcCoe
open Idealize.ShloMosaic.ValueIdx

variable {F : FTy → Type} [FloatOps F]

/-- The five arrays staged on one device. -/
structure Ins (F : FTy → Type) where
  x : (cc0_stg0_0 : Ref sig .tc).ty.Contents (Elt F)
  wq : (cc0_stg1_0 : Ref sig .tc).ty.Contents (Elt F)
  k : (cc0_stg2_0 : Ref sig .tc).ty.Contents (Elt F)
  v : (cc0_stg3_0 : Ref sig .tc).ty.Contents (Elt F)
  wo : (cc0_stg4_0 : Ref sig .tc).ty.Contents (Elt F)

/-! ## The pieces a device reads -/

/-- A batch of `x` lies within it. -/
theorem x_inb : ∀ b : Fin 2, ∀ a : Fin 3, (![b.val, 0, 0] : Fin 3 → ℕ) a + S1x128x512.size a ≤ S2x128x512.size a := by decide
/-- A head of a batch lies within the keys and values. -/
theorem kv_inb : ∀ (b : Fin 2) (h : Fin 4), ∀ a : Fin 4, (![b.val, 0, h.val, 0] : Fin 4 → ℕ) a + S1x128x1x64.size a ≤ S2x128x4x64.size a := by decide
/-- A batch of slot 0 lies within the scratch buffer. -/
theorem s_inb : ∀ b : Fin 2, ∀ a : Fin 4, (![0, b.val, 0, 0] : Fin 4 → ℕ) a + S1x1x128x512.size a ≤ S4x2x128x512.size a := by decide

/-- Batch `b` of `x`. -/
abbrev xRect (b : Fin 2) : Rect S2x128x512 := Rect.unit (s := S2x128x512) ![b.val, 0, 0] S1x128x512.size (x_inb b)
/-- Head `h` of batch `b` of the keys or values. -/
abbrev kvRect (b : Fin 2) (h : Fin 4) : Rect S2x128x4x64 := Rect.unit (s := S2x128x4x64) ![b.val, 0, h.val, 0] S1x128x1x64.size (kv_inb b h)
/-- The device's columns of `Wq`. -/
abbrev wqRect (c : Dev nD) : Rect S512x1024 := Rect.unit (s := S512x1024) (k0_off1 c) S512x256.size (k0_off1_inb c)
/-- The device's rows of `Wo`. -/
abbrev woRect (c : Dev nD) : Rect S1024x512 := Rect.unit (s := S1024x512) (k0_off2 c) S256x512.size (k0_off2_inb c)
/-- Batch `b` of slot 0. -/
abbrev sRect (b : Fin 2) : Rect S4x2x128x512 := Rect.unit (s := S4x2x128x512) ![0, b.val, 0, 0] S1x1x128x512.size (s_inb b)
/-- The whole result. -/
abbrev oRect : Rect S2x128x512 := Rect.unit (s := S2x128x512) ![0, 0, 0] S2x128x512.size inb_S2x128x512_S2x128x512_0_0_0

section Pieces
variable (c : Dev nD) (I : Ins F) (b : Fin 2) (h : Fin 4)

/-- Batch `b` of `x`, as read. -/
def xAt : Vec F S1x128x512 .bf16 := (Memref.whole cc0_stg0_0).view.readAt (Elt F) (xRect b).toLoadRect I.x
/-- The keys of head `h` of batch `b`, as read. -/
def kAt : Vec F S1x128x1x64 .bf16 := (Memref.whole cc0_stg2_0).view.readAt (Elt F) (kvRect b h).toLoadRect I.k
/-- The values of head `h` of batch `b`, as read. -/
def vAt : Vec F S1x128x1x64 .bf16 := (Memref.whole cc0_stg3_0).view.readAt (Elt F) (kvRect b h).toLoadRect I.v
/-- The device's columns of `Wq`, as read. -/
def wqAt : FVec F S512x256 .bf16 := k0_pay1 ((Memref.whole cc0_stg1_0).view.readAt (Elt F) (wqRect c).toLoadRect I.wq)
/-- The device's rows of `Wo`, as read. -/
def woAt : FVec F S256x512 .bf16 := k0_pay2 ((Memref.whole cc0_stg4_0).view.readAt (Elt F) (woRect c).toLoadRect I.wo)

/-- The two halves of the mask, and the mask. -/
def mskA : IVec S128x128 1 :=
  k0_pay7 (iota .tc S128x128 32 [0] iota_S128x128_d0_w32) 64#32 k0_pay3 k0_pay4 (Scalar.extui (Scalar.cmpi .sgt 64#32 0#32))
/-- The mask's second half. -/
def mskB : IVec S128x128 1 :=
  k0_pay8 (iota .tc S128x128 32 [0] iota_S128x128_d0_w32) 64#32 k0_pay3 k0_pay4 (Scalar.extui (Scalar.cmpi .sgt 64#32 0#32))
/-- The mask. -/
def msk : IVec S128x128 1 := k0_pay9 mskA mskB

/-! ## The two batches -/

/-- Batch 0's part of the result, at the result's format and at the transfers'. -/
def st0 : FVec F S1x128x512 .f32 :=
  k0_pay17 (woAt c I) msk (k0_pay10 (wqAt c I) (xAt I 0)) (k0_pay11 (wqAt c I) mskA mskB (xAt I 0) (kAt I 0 0) (vAt I 0 0))
    (k0_pay14 msk (k0_pay12 (wqAt c I) (xAt I 0)) (k0_pay13 (kAt I 0 1)) (vAt I 0 1))
    (k0_pay15 msk (k0_pay10 (wqAt c I) (xAt I 0)) (kAt I 0 2) (vAt I 0 2)) (kAt I 0 3) (vAt I 0 3)
/-- Batch 0's part at the transfers' format. -/
def sc0 : FVec F S1x1x128x512 .bf16 :=
  k0_pay18 (woAt c I) msk (k0_pay10 (wqAt c I) (xAt I 0)) (k0_pay11 (wqAt c I) mskA mskB (xAt I 0) (kAt I 0 0) (vAt I 0 0))
    (k0_pay14 msk (k0_pay12 (wqAt c I) (xAt I 0)) (k0_pay13 (kAt I 0 1)) (vAt I 0 1))
    (k0_pay15 msk (k0_pay10 (wqAt c I) (xAt I 0)) (kAt I 0 2) (vAt I 0 2)) (kAt I 0 3) (vAt I 0 3)
/-- Batch 1's. -/
def st1 : FVec F S1x128x512 .f32 :=
  k0_pay27 (woAt c I) msk (k0_pay20 (wqAt c I) msk (xAt I 1) (kAt I 1 0) (vAt I 1 0))
    (k0_pay23 msk (k0_pay21 (vAt I 1 1)) (k0_pay22 (wqAt c I) (xAt I 1) (kAt I 1 1)) (Scalar.ofBits .f32 0x3E000000#32))
    (k0_pay24 msk (k0_pay19 (wqAt c I) (xAt I 1)) (kAt I 1 2) (vAt I 1 2)) (k0_pay25 (k0_pay19 (wqAt c I) (xAt I 1))) (kAt I 1 3) (vAt I 1 3)
/-- Batch 1's part at the transfers' format. -/
def sc1 : FVec F S1x1x128x512 .bf16 :=
  k0_pay28 (woAt c I) msk (k0_pay20 (wqAt c I) msk (xAt I 1) (kAt I 1 0) (vAt I 1 0))
    (k0_pay23 msk (k0_pay21 (vAt I 1 1)) (k0_pay22 (wqAt c I) (xAt I 1) (kAt I 1 1)) (Scalar.ofBits .f32 0x3E000000#32))
    (k0_pay24 msk (k0_pay19 (wqAt c I) (xAt I 1)) (kAt I 1 2) (vAt I 1 2)) (k0_pay25 (k0_pay19 (wqAt c I) (xAt I 1))) (kAt I 1 3) (vAt I 1 3)

end Pieces

/-! ## What the buffers hold -/

/-- Device `c`'s own part of the result, at the result's format. -/
def ownOut (c : Dev nD) (I : Ins F) : (cc0_stg5_0 : Ref sig .tc).ty.Contents (Elt F) := fun i : S2x128x512.Idx =>
  if (i 0 : ℕ) = 0 then st0 c I (ix3 0 (i 1) (i 2)) else st1 c I (ix3 0 (i 1) (i 2))

/-- What every device's scratch buffer holds in the end: slot `k` is the part of the device `k` places to the left. -/
def ringBuf (I : Dev nD → Ins F) (c : Dev nD) : Scr F := fun i : S4x2x128x512.Idx =>
  if (i 1 : ℕ) = 0 then sc0 (back c (i 0)) (I (back c (i 0))) (ix4 0 0 (i 2) (i 3))
  else sc1 (back c (i 0)) (I (back c (i 0))) (ix4 0 0 (i 2) (i 3))

/-- Slot `k` of the scratch buffer as read. -/
def got (I : Dev nD → Ins F) (c : Dev nD) (k : Fin 4) : Vec F S1x2x128x512 .bf16 :=
  (Memref.whole cc0_scratch0).view.readAt (Elt F) (slotRect k).toLoadRect (ringBuf I c)

/-- The result after one, two and three hops. -/
def sum1 (I : Dev nD → Ins F) (c : Dev nD) : FVec F S2x128x512 .f32 := k0_pay30 (k0_pay29 (ownOut c (I c))) (got I c 1)
/-- The result after two hops. -/
def sum2 (I : Dev nD → Ins F) (c : Dev nD) : FVec F S2x128x512 .f32 := k0_pay31 (sum1 I c) (got I c 2)
/-- The result after three hops. -/
def sum3 (I : Dev nD → Ins F) (c : Dev nD) : FVec F S2x128x512 .f32 := k0_pay32 (sum2 I c) (got I c 3)

/-- An index of slot 0 lies in the batch of its second coordinate. -/
theorem mem_sRect (b : Fin 2) (i : S4x2x128x512.Idx) (h0 : (i 0 : ℕ) = 0) : i ∈ (sRect b).set ↔ (i 1 : ℕ) = b.val := by
  rw [Rect.mem_set_unit]
  constructor
  · intro h
    have := h 1
    change b.val ≤ (i 1 : ℕ) ∧ (i 1 : ℕ) < b.val + 1 at this
    omega
  · intro h a
    fin_cases a
    · change 0 ≤ (i 0 : ℕ) ∧ (i 0 : ℕ) < 0 + 1; omega
    · change b.val ≤ (i 1 : ℕ) ∧ (i 1 : ℕ) < b.val + 1; omega
    · change 0 ≤ (i 2 : ℕ) ∧ (i 2 : ℕ) < 0 + 128; exact ⟨Nat.zero_le _, by have := (i 2).isLt; change (i 2 : ℕ) < 128 at this; omega⟩
    · change 0 ≤ (i 3 : ℕ) ∧ (i 3 : ℕ) < 0 + 512; exact ⟨Nat.zero_le _, by have := (i 3).isLt; change (i 3 : ℕ) < 512 at this; omega⟩

/-- An index of a batch of slot 0, from its place in the batch. -/
theorem sRect_idx (b : Fin 2) (i : S4x2x128x512.Idx) (h0 : (i 0 : ℕ) = 0) (h1 : (i 1 : ℕ) = b.val) :
    i = (sRect b).emb (ix4 0 0 (i 2) (i 3) : S1x1x128x512.Idx) := by
  funext a
  fin_cases a
  · exact Fin.ext h0
  · exact Fin.ext h1
  · exact Fin.ext (show (i 2 : ℕ) = 0 + 1 * (i 2 : ℕ) by omega)
  · exact Fin.ext (show (i 3 : ℕ) = 0 + 1 * (i 3 : ℕ) by omega)

/-- A batch of slot 0 as it is written. -/
abbrev sAcc (b : Fin 2) : View sig .tc .vmem S1x1x128x512 .bf16 := (Memref.whole cc0_scratch0).access (sRect b)

/-- What that write covers. -/
theorem sAcc_set (b : Fin 2) : (sAcc b).setOn Finset.univ = (sRect b).set := View.set_slice_whole cc0_scratch0 (sRect b)

/-- A batch of slot 0 lies in slot 0. -/
theorem sRect_sub (b : Fin 2) : (sRect b).set ⊆ slotSet 0 := fun i hi => by
  rw [mem_slotSet]
  have := (Rect.mem_set_unit.mp hi) 0
  change 0 ≤ (i 0 : ℕ) ∧ (i 0 : ℕ) < 0 + 1 at this
  change (i 0 : ℕ) = 0
  omega

omit [FloatOps F] in
/-- A batch of slot 0 written, read at an index of slot 0. -/
theorem write_s (b : Fin 2) (f : Scr F) (w : Vec F S1x1x128x512 .bf16) (i : S4x2x128x512.Idx) (h0 : (i 0 : ℕ) = 0) :
    (sAcc b).write (Elt F) f w Finset.univ i = if (i 1 : ℕ) = b.val then w (ix4 0 0 (i 2) (i 3)) else f i := by
  split
  · rename_i h1
    exact (congrArg ((sAcc b).write (Elt F) f w Finset.univ) (sRect_idx b i h0 h1)).trans
      (View.write_emb_of_mem (v := sAcc b) f w (x := (ix4 0 0 (i 2) (i 3) : S1x1x128x512.Idx)) (Finset.mem_univ _))
  · rename_i h1
    exact View.write_of_not_mem (v := sAcc b) f w Finset.univ (by rw [sAcc_set, mem_sRect b i h0]; exact h1)

/-- Slot 0 after the device has written both batches. -/
theorem slot0_written (I : Dev nD → Ins F) (c : Dev nD) (f : Scr F) (i : S4x2x128x512.Idx) (hi : i ∈ slotSet 0) :
    (sAcc 1).write (Elt F) ((sAcc 0).write (Elt F) f (sc0 c (I c)) Finset.univ) (sc1 c (I c)) Finset.univ i = ringBuf I c i := by
  have h0 : (i 0 : ℕ) = 0 := (mem_slotSet 0 i).mp hi
  have hb : back c (i 0) = c := by rw [show i 0 = (0 : Fin 4) from Fin.ext h0, back_zero]
  have h2 : (i 1 : ℕ) < 2 := (i 1).isLt
  rw [write_s 1 _ _ i h0]
  unfold ringBuf
  rw [hb]
  by_cases h1 : (i 1 : ℕ) = 0
  · rw [if_neg (by rw [h1]; decide), if_pos h1, write_s 0 _ _ i h0]
    exact if_pos h1
  · rw [if_neg h1]
    exact if_pos (show (i 1 : ℕ) = 1 by omega)

/-- Where slot `k`'s index `j` lies. -/
theorem slot_emb (j : S2x128x512.Idx) :
    ∃ y : S1x2x128x512.Idx, ∀ k : Fin 4, (slotM k).view.emb j = (slotRect k).emb y :=
  ⟨Shape.reshapeEquiv (by decide) j, fun _ => rfl⟩

/-- What one transfer delivers: the receiver's next slot at its final contents. -/
theorem delivered (I : Dev nD → Ins F) (c : Dev nD) (h : Fin 3) (fd : Scr F) (i : S4x2x128x512.Idx) (hi : i ∈ slotSet h.succ) :
    (slotM h.succ).view.write (Elt F) fd ((slotM h.castSucc).view.read (Elt F) (ringBuf I c)) Finset.univ i = ringBuf I (rgt c) i := by
  rw [← slotM_set] at hi
  obtain ⟨j, -, rfl⟩ := Finset.mem_map.mp hi
  refine (View.write_emb_of_mem (v := (slotM h.succ).view) fd _ (x := j) (Finset.mem_univ _)).trans ?_
  change ringBuf I c ((slotM h.castSucc).view.emb j) = ringBuf I (rgt c) ((slotM h.succ).view.emb j)
  obtain ⟨y, hy⟩ := slot_emb j
  rw [hy, hy]
  have hy0 : (y 0 : ℕ) = 0 := Nat.lt_one_iff.mp (y 0).isLt
  have e0 (k : Fin 4) : ((slotRect k).emb y) 0 = k :=
    Fin.ext (show k.val + 1 * (y 0 : ℕ) = k.val by rw [hy0]; rfl)
  have hd (k : Fin 4) (c' : Dev nD) : ringBuf I c' ((slotRect k).emb y)
      = if ((slotRect 0).emb y 1 : ℕ) = 0 then sc0 (back c' k) (I (back c' k)) (ix4 0 0 ((slotRect 0).emb y 2) ((slotRect 0).emb y 3))
        else sc1 (back c' k) (I (back c' k)) (ix4 0 0 ((slotRect 0).emb y 2) ((slotRect 0).emb y 3)) := by
    unfold ringBuf
    rw [e0 k]
    rfl
  rw [hd, hd, back_rgt]

/-! ## The device's own part of the result -/

/-- A batch of the result as it is written. -/
abbrev oAcc (b : Fin 2) : View sig .tc .vmem S1x128x512 .f32 := (Memref.whole cc0_stg5_0).access (xRect b)

/-- An index of a batch, from its place in the batch. -/
theorem xRect_idx (b : Fin 2) (i : S2x128x512.Idx) (h0 : (i 0 : ℕ) = b.val) :
    i = (xRect b).emb (ix3 0 (i 1) (i 2) : S1x128x512.Idx) := by
  funext a
  fin_cases a
  · exact Fin.ext h0
  · exact Fin.ext (show (i 1 : ℕ) = 0 + 1 * (i 1 : ℕ) by omega)
  · exact Fin.ext (show (i 2 : ℕ) = 0 + 1 * (i 2 : ℕ) by omega)

/-- An index of a batch has the batch's number first. -/
theorem mem_xRect (b : Fin 2) (i : S2x128x512.Idx) (h : i ∈ (xRect b).set) : (i 0 : ℕ) = b.val := by
  have := (Rect.mem_set_unit.mp h) 0
  change b.val ≤ (i 0 : ℕ) ∧ (i 0 : ℕ) < b.val + 1 at this
  omega

omit [FloatOps F] in
/-- A batch of the result written, read at an index. -/
theorem write_o (b : Fin 2) (f : (cc0_stg5_0 : Ref sig .tc).ty.Contents (Elt F)) (w : Vec F S1x128x512 .f32) (i : S2x128x512.Idx) :
    (oAcc b).write (Elt F) f w Finset.univ i = if (i 0 : ℕ) = b.val then w (ix3 0 (i 1) (i 2)) else f i := by
  split
  · rename_i h1
    exact (congrArg ((oAcc b).write (Elt F) f w Finset.univ) (xRect_idx b i h1)).trans
      (View.write_emb_of_mem (v := oAcc b) f w (x := (ix3 0 (i 1) (i 2) : S1x128x512.Idx)) (Finset.mem_univ _))
  · rename_i h1
    refine View.write_of_not_mem (v := oAcc b) f w Finset.univ fun hm => h1 (mem_xRect b i ?_)
    rwa [show (oAcc b).setOn Finset.univ = (xRect b).set from View.set_slice_whole cc0_stg5_0 (xRect b)] at hm

/-- The result buffer after both batches have been written. -/
theorem out_written (c : Dev nD) (I : Ins F) (f : (cc0_stg5_0 : Ref sig .tc).ty.Contents (Elt F)) :
    (oAcc 1).write (Elt F) ((oAcc 0).write (Elt F) f (st0 c I) Finset.univ) (st1 c I) Finset.univ = ownOut c I := by
  funext i
  have h2 : ((i : S2x128x512.Idx) 0 : ℕ) < 2 := ((i : S2x128x512.Idx) 0).isLt
  rw [write_o 1 _ _ i]
  unfold ownOut
  by_cases h1 : ((i : S2x128x512.Idx) 0 : ℕ) = 0
  · rw [if_neg (by rw [h1]; decide), if_pos h1, write_o 0 _ _ i]
    exact if_pos h1
  · rw [if_neg h1]
    exact if_pos (show ((i : S2x128x512.Idx) 0 : ℕ) = 1 by omega)

end Cert.RingAttn

end
-- ==== Proof.Hop.lean ====
/-
One hop around the ring: a device sends a slot to its right neighbour's next slot, waits until its own has been read,
and waits until its own next slot has been written by its left neighbour.
-/
module

public import proofs.«01_k».proof.Proof.Contents

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop variants. -/
abbrev 𝒱₀ : Variants := Variants.none

variable (I : Dev nD → Ins F)

/-- The schedule at what the buffers hold in the end. -/
abbrev rd : Rounds.Schedule (GSem nD τ sig) Bool 𝕄 := sched (ringBuf I)

/-- What every device knows: an invariant for each of the semaphores, under the names `K`, and that its first round
    has begun. -/
def records (K : Dev nD × Fin 7 → ℕ) : sProp 𝕄 :=
  iprop((bigSep Finset.univ fun ck : Dev nD × Fin 7 => cellInv ER (rd I) (K ck) (kcell ck))
    ∗ bigSep Finset.univ fun ck : Dev nD × Fin 7 => reached ER (kcell ck) 0)

/-- The cells' records may be used again and again. -/
instance records_persistent (K : Dev nD × Fin 7 → ℕ) : BI.Persistent (records I K) := by unfold records; infer_instance

/-- Each cell's invariant is among the records. -/
theorem inv_all (K : Dev nD × Fin 7 → ℕ) (ck : Dev nD × Fin 7) :
    (bigSep Finset.univ fun ck : Dev nD × Fin 7 => (cellInv ER (rd I) (K ck) (kcell ck) : sProp 𝕄)) ⊢ cellInv ER (rd I) (K ck) (kcell ck) :=
  bigSep_elim (Finset.mem_univ ck)

omit [FloatOps F] in
/-- Each cell's first round is reached. -/
theorem reached_all (ck : Dev nD × Fin 7) :
    (bigSep Finset.univ fun ck : Dev nD × Fin 7 => (reached ER (kcell ck) 0 : sProp 𝕄)) ⊢ reached ER (kcell ck) 0 :=
  bigSep_elim (Finset.mem_univ ck)

/-- The invariant at a cell given by name. -/
theorem inv_at (K : Dev nD × Fin 7 → ℕ) (ck : Dev nD × Fin 7) (g : GSem nD τ sig) (hg : kcell ck = g) :
    records I K ⊢ cellInv ER (rd I) (K ck) g := by
  subst hg
  unfold records
  iintro ⟨H, -⟩
  iapply (inv_all I K ck); iexact H

/-- The reached round at a cell given by name. -/
theorem reached_at (K : Dev nD × Fin 7 → ℕ) (ck : Dev nD × Fin 7) (g : GSem nD τ sig) (hg : kcell ck = g) :
    records I K ⊢ reached ER g 0 := by
  subst hg
  unfold records
  iintro ⟨-, H⟩
  iapply (reached_all (F := F) ck); iexact H

variable (K : Dev nD × Fin 7 → ℕ)

/-- The transfer of hop `h`, to `n`, the right neighbour. -/
theorem wp_send_hop (c n : Dev nD) (hn : n = rgt c) (h : Fin 3) (sS rS : DmaSem sig) (hsS : sS = sendS h) (hrS : rS = recvS h)
    (O O' : CellTallies nD τ sig Unit) (hO : O = O' + tallyAt (recvCell (rgt c) h) () N)
    {hsc : (slotM h.succ : Memref sig (Dev.tc n : Thread nD τ).2.kind .vmem S2x128x512 .bf16).view.ref.isScScratch = false}
    {hsrc : (slotM h.castSucc).view.WordExact} {hdst : (slotM h.succ).view.WordExact}
    {hsem : DmaTarget.Typed .vmem (.dma rS) (.remote (Dev.tc n : Thread nD τ) (slotM h.succ) (.dma sS) hsc)}
    {α : Type} {Q : α → sProp 𝕄} {k : PUnit → Prog (TpuEff nD τ sig (Elt F) Λ₀ .tc) α}
    (fn : Scr F) (W : Waits sig Unit) :
    iprop(records I K ∗ slotPts c h.castSucc (ringBuf I c) ∗ slotPts (rgt c) h.succ fn
        ∗ owes (c : Thread nD τ) O W ∗ dutyTok ER (sendCell c h) 0 false ∗ dutyTok ER (recvCell (rgt c) h) 0 false)
      ⊢ iprop(((cred (tallyAt (sendCell c h) () N) ∗ owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM h.castSucc) (.remote (Dev.tc n : Thread nD τ) (slotM h.succ) (.dma sS) hsc) (.dma rS) hsrc hdst hsem) k) Q) := by
  subst hn hsS hrS
  iintro ⟨#HK, Hs, Hd, HO, HtS, HtR⟩
  iapply (Rounds.wp_send_pointsTo 𝒱₀ ER (rd I) (c : Thread nD τ) none (src := slotM h.castSucc) (c' := (rgt c : Thread nD τ)) (dst := slotM h.succ)
    (sS := .dma (sendS h)) (sem := .dma (recvS h)) (κ₁ := K (c, sIx h)) (κ₂ := K (rgt c, rIx h))
    (r₁ := 0) (r₂ := 0) (d₁ := false) (d₂ := false) (fs := ringBuf I c) (fd := fn) (q := fullShare)
    (by rw [duties_send]; exact Finset.mem_singleton_self _) (by rw [duties_recv]; exact Finset.mem_singleton_self _)
    () () N (credit_eq h.succ) (amount_send (ringBuf I) c h false) (amount_recv (ringBuf I) (rgt c) h false) O' hO (W := W)
    (by rw [payload_send, slotM_set]; exact BI.Entails.refl _)
    (by rw [payload_recv, slotM_set]
        exact Entails.of_eq (pointsTo_congr fun i hi => delivered I c h fn i hi))) $$ [Hs Hd HO HtS HtR]
  isplitr; · iapply (inv_at I K (c, sIx h) _ (kcell_send c h)); iexact HK
  isplitr; · iapply (inv_at I K (rgt c, rIx h) _ (kcell_recv (rgt c) h)); iexact HK
  isplitl [Hs]; · rw [slotM_set]; unfold slotPts; iexact Hs
  isplitl [Hd]; · rw [slotM_set]; unfold slotPts; iexact Hd
  isplitl [HO]; · iexact HO
  isplitl [HtS]; · iexact HtS
  isplitr; · iapply (reached_at I K (c, sIx h) _ (kcell_send c h)); iexact HK
  isplitl [HtR]; · iexact HtR
  iapply (reached_at I K (rgt c, rIx h) _ (kcell_recv (rgt c) h)); iexact HK

/-- What a device puts into hop `h`: its filled slot, its right neighbour's empty one, and its rights on the semaphores. -/
def hopIn (c : Dev nD) (h : Fin 3) (O : CellTallies nD τ sig Unit) (W : Waits sig Unit) (fn : Scr F) : sProp 𝕄 :=
  iprop(slotPts c h.castSucc (ringBuf I c) ∗ slotPts (rgt c) h.succ fn ∗ owes (c : Thread nD τ) O W
    ∗ dutyTok ER (sendCell c h) 0 false ∗ dutyTok ER (recvCell (rgt c) h) 0 false
    ∗ cred (tallyAt (recvCell c h) () N) ∗ atPos ER (sendCell c h) 0 ∅ 0 ∗ atPos ER (recvCell c h) 0 ∅ 0)
/-- What it has after: both its slots filled, and the semaphores spent. -/
def hopOut (c : Dev nD) (h : Fin 3) (O : CellTallies nD τ sig Unit) : sProp 𝕄 :=
  iprop(∃ W : Waits sig Unit, owes (c : Thread nD τ) O W ∗ slotPts c h.castSucc (ringBuf I c) ∗ slotPts c h.succ (ringBuf I c)
    ∗ semVal (sendCell c h) 0 ∗ semVal (recvCell c h) 0)

set_option maxHeartbeats 800000 in
/-- Hop `h`: the transfer and the two waits. -/
theorem wp_hop (c n : Dev nD) (hn : n = rgt c) (h : Fin 3) (src dst : Memref sig .tc .vmem S2x128x512 .bf16)
    (hs : src = slotM h.castSucc) (hd : dst = slotM h.succ) (sS rS sS' rS' : DmaSem sig) (hsS : sS = sendS h) (hrS : rS = recvS h)
    (hsS' : sS' = sendS h) (hrS' : rS' = recvS h)
    (O O' : CellTallies nD τ sig Unit) (hO : O = O' + tallyAt (recvCell (rgt c) h) () N)
    (hmS : (levAts L lv : sProp 𝕄) ⊢ MayWait (c : Thread nD τ) (.dma (sendS h)) () O')
    (hmR : (levAts L lv : sProp 𝕄) ⊢ MayWait (c : Thread nD τ) (.dma (recvS h)) () O')
    {hsc : (dst : Memref sig (Dev.tc n : Thread nD τ).2.kind .vmem S2x128x512 .bf16).view.ref.isScScratch = false}
    {hsrc : src.view.WordExact} {hdst : dst.view.WordExact}
    {hsem : DmaTarget.Typed .vmem (.dma rS) (.remote (Dev.tc n : Thread nD τ) dst (.dma sS) hsc)}
    {h1 h1' : dst.view.WordExact} {h2 h2' : src.view.WordExact}
    {α : Type} {Q : α → sProp 𝕄} {k : PUnit → Prog (TpuEff nD τ sig (Elt F) Λ₀ .tc) α}
    (fn : Scr F) (W : Waits sig Unit) :
    iprop(records I K ∗ levAts L lv ∗ hopIn I c h O W fn)
      ⊢ iprop((hopOut I c h O' -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) fun _ =>
                .op (.waitDma2 sS' dst src h1 h2) fun _ =>
                .op (.waitDma2 rS' src dst h2' h1') k) Q) := by
  subst hsS' hrS' hs hd
  unfold hopIn
  iintro ⟨#HK, #Hlev, Hs, Hd, HO, HtS, HtR, HcR, HaS, HaR⟩ Hk
  iapply (wp_send_hop I K c n hn h sS rS hsS hrS O O' hO fn W) $$ [Hs Hd HO HtS HtR]
  · isplitr; · iexact HK
    isplitl [Hs]; · iexact Hs
    isplitl [Hd]; · iexact Hd
    isplitl [HO]; · iexact HO
    isplitl [HtS] <;> iassumption
  iintro ⟨HcS, HO⟩
  iapply (Rounds.wp_wait_rest_token 𝒱₀ ER (rd I) (c : Thread nD τ) none (κ := K (c, sIx h))
      (wpE_waitDma2_eq 𝒱₀ (c : Thread nD τ) none Set.univ) (Set.mem_univ _) () (O := O') (W := W) (R := 0) (m := 0) (T := ∅)
      (by rw [Nat.zero_add, expect_send])) $$ [HcS HO HaS]
  · isplitr; · iapply (inv_at I K (c, sIx h) _ (kcell_send c h)); iexact HK
    isplitl [HcS]; · iexact HcS
    isplitl [HO]; · iexact HO
    isplitr; · iapply hmS; iexact Hlev
    iexact HaS
  iintro ⟨HO, HaS, -, Hpay⟩
  ihave Hs := (Entails.of_eq (rest_send (ringBuf I) c h)) $$ Hpay
  iapply (Rounds.wp_wait_rest_token 𝒱₀ ER (rd I) (c : Thread nD τ) none (κ := K (c, rIx h))
      (wpE_waitDma2_eq 𝒱₀ (c : Thread nD τ) none Set.univ) (Set.mem_univ _) () (O := O') (W := insert (SemLoc.dma (sendS h), ()) W) (R := 0) (m := 0) (T := ∅)
      (by rw [Nat.zero_add, expect_recv])) $$ [HcR HO HaR]
  · isplitr; · iapply (inv_at I K (c, rIx h) _ (kcell_recv c h)); iexact HK
    isplitl [HcR]; · iexact HcR
    isplitl [HO]; · iexact HO
    isplitr; · iapply hmR; iexact Hlev
    iexact HaR
  iintro ⟨HO, HaR, -, Hpay⟩
  ihave Hr := (Entails.of_eq (rest_recv (ringBuf I) c h)) $$ Hpay
  imod (Rounds.cell_close ER (rd I) (Set.mem_univ (K (c, sIx h))) (fun h => h) (R := 0 + 1) (duties_later (ringBuf I) (sendCell c h))) $$ [HaS] with HzS
  · isplitr; · iapply (inv_at I K (c, sIx h) _ (kcell_send c h)); iexact HK
    iexact HaS
  imod (Rounds.cell_close ER (rd I) (Set.mem_univ (K (c, rIx h))) (fun h => h) (R := 0 + 1) (duties_later (ringBuf I) (recvCell c h))) $$ [HaR] with HzR
  · isplitr; · iapply (inv_at I K (c, rIx h) _ (kcell_recv c h)); iexact HK
    iexact HaR
  iapply Hk
  unfold hopOut
  iexists (insert (SemLoc.dma (recvS h), ()) (insert (SemLoc.dma (sendS h), ()) W))
  isplitl [HO]; · iexact HO
  isplitl [Hs]; · iexact Hs
  isplitl [Hr]; · iexact Hr
  isplitl [HzS] <;> iassumption

end Cert.RingAttn

end
-- ==== Proof.Body.lean ====
/-
The kernel on one device, executed from what the device is given at launch to what it leaves behind.
-/
module

public import proofs.«01_k».proof.Proof.Hop

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The machine at launch. -/
abbrev s₀ : MemSt nD τ sig (Elt F) := ⟨m, fun _ => 0, ρ⟩

/-- What is staged on device `c`: its five argument arrays. -/
def ins (c : Dev nD) : Ins F where
  x := (win0_0.blk (0 : Fin 1)).view.read (Elt F) ((s₀ m ρ).mem ((c : Thread nD τ).loc main_arg0))
  wq := (win0_1.blk (0 : Fin 1)).view.read (Elt F) ((s₀ m ρ).mem ((c : Thread nD τ).loc main_arg1))
  k := (win0_2.blk (0 : Fin 1)).view.read (Elt F) ((s₀ m ρ).mem ((c : Thread nD τ).loc main_arg2))
  v := (win0_3.blk (0 : Fin 1)).view.read (Elt F) ((s₀ m ρ).mem ((c : Thread nD τ).loc main_arg3))
  wo := (win0_4.blk (0 : Fin 1)).view.read (Elt F) ((s₀ m ρ).mem ((c : Thread nD τ).loc main_arg4))

/-- The kernel's result on device `c`. -/
def outAt (c : Dev nD) : (cc0_stg5_0 : Ref sig .tc).ty.Contents (Elt F) := sum3 (ins m ρ) c

/-! ## What a device starts with -/

/-- The duties a device pays: its word to each neighbour, and the two raises of each of its three transfers. -/
def payToks (c : Dev nD) : sProp 𝕄 :=
  iprop(dutyTok ER (barCell (rgt c)) 0 false ∗ dutyTok ER (barCell (lft c)) 0 true
    ∗ dutyTok ER (sendCell c 0) 0 false ∗ dutyTok ER (sendCell c 1) 0 false ∗ dutyTok ER (sendCell c 2) 0 false
    ∗ dutyTok ER (recvCell (rgt c) 0) 0 false ∗ dutyTok ER (recvCell (rgt c) 1) 0 false ∗ dutyTok ER (recvCell (rgt c) 2) 0 false)

/-- Its positions on its own seven semaphores. -/
def posAll (c : Dev nD) : sProp 𝕄 :=
  iprop(atPos ER (barCell c) 0 ∅ 0
    ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0)

/-- What a device alone may use: its places in the rounds and the duties it pays. -/
def linear (c : Dev nD) : sProp 𝕄 := iprop(posAll c ∗ payToks c)

/-- The credit a device may wait with: its neighbours' words and three landings. -/
def creds (c : Dev nD) : sProp 𝕄 :=
  iprop(cred (tallyAt (barCell c) () 2) ∗ cred (tallyAt (recvCell c 0) () N) ∗ cred (tallyAt (recvCell c 1) () N) ∗ cred (tallyAt (recvCell c 2) () N))

/-- What a device starts with. -/
def start (c : Dev nD) : sProp 𝕄 :=
  iprop((∃ K, records (ins m ρ) K ∗ linear c) ∗ creds c ∗ levAts L lv)

/-- Before the kernel. -/
def Φ₀ (c : Dev nD) : sProp 𝕄 := iprop(start m ρ c ∗ ∃ f : Scr F, (((c : Thread nD τ).loc cc0_scratch0) ↦{fullShare} f))
/-- After it: the scratch buffer at some contents, and all seven semaphores at zero. -/
def zeros (c : Dev nD) : sProp 𝕄 :=
  iprop(semVal (barCell c) 0 ∗ semVal (sendCell c 0) 0 ∗ semVal (sendCell c 1) 0 ∗ semVal (sendCell c 2) 0
    ∗ semVal (recvCell c 0) 0 ∗ semVal (recvCell c 1) 0 ∗ semVal (recvCell c 2) 0)
/-- What a device ends with: its semaphores at zero and its scratch buffer full. -/
def Φ₁ (c : Dev nD) : sProp 𝕄 := iprop(zeros c ∗ (((c : Thread nD τ).loc cc0_scratch0) ↦{fullShare} ringBuf (ins m ρ) c))

/-- The launch's data on a device: arrays, staged contents, resources before and after, and what it owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m ρ c).x
    | ⟨1, _⟩ => (ins m ρ c).wq
    | ⟨2, _⟩ => (ins m ρ c).k
    | ⟨3, _⟩ => (ins m ρ c).v
    | ⟨4, _⟩ => (ins m ρ c).wo
    | ⟨5, _⟩ => outAt m ρ c
  Φ t := match t with
    | ⟨0, _⟩ => Φ₀ m ρ c
    | ⟨_ + 1, _⟩ => Φ₁ m ρ c
  q _ := fullShare
  owed t := match t with
    | ⟨0, _⟩ => owe0 c
    | ⟨_ + 1, _⟩ => 0

/-- A staging buffer held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- Owning a whole buffer is a points-to of its location. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

/-- The program's one grid point. -/
abbrev t₀ : Fin cfg0.N := t0_0

/-- Every argument window is fetched at the one grid point. -/
theorem fetch_w (w : Fin 6) (hw : w ≠ 5) : (cfg0.win w).fetch t₀ = true := by revert w; decide

variable (K : Dev nD × Fin 7 → ℕ)

/-- What the body runs from. -/
def bodyPre (c : Dev nD) : sProp 𝕄 :=
  iprop((records (ins m ρ) K ∗ linear c ∗ creds c ∗ levAts L lv ∗ ∃ f : Scr F, (((c : Thread nD τ).loc cc0_scratch0) ↦{fullShare} f))
    ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

/-- What the body leaves. -/
def bodyPost (c : Dev nD) : sProp 𝕄 :=
  iprop(Φ₁ m ρ c ∗ (dats m ρ 0 c).owesAt () t₀.succ ∗ stg c cc0_stg0_0 (ins m ρ c).x ∗ stg c cc0_stg1_0 (ins m ρ c).wq ∗ stg c cc0_stg2_0 (ins m ρ c).k
    ∗ stg c cc0_stg3_0 (ins m ρ c).v ∗ stg c cc0_stg4_0 (ins m ρ c).wo ∗ stg c cc0_stg5_0 (outAt m ρ c))

/-- Three zero offsets. -/
theorem hz3 : (![0, 0, 0] : Fin 3 → Nat) = fun _ => 0 := funext fun a => by fin_cases a <;> rfl

omit [FloatOps F] in
/-- Reading the whole result buffer gives its contents. -/
theorem read_out (f : (cc0_stg5_0 : Ref sig .tc).ty.Contents (Elt F)) : (Memref.whole cc0_stg5_0).view.readAt (Elt F) oRect.toLoadRect f = f :=
  Memref.readAt_unit_zero (Elt F) cc0_stg5_0 hz3 _ f
omit [FloatOps F] in
/-- Writing the whole result buffer leaves what was written. -/
theorem write_out (f w : (cc0_stg5_0 : Ref sig .tc).ty.Contents (Elt F)) :
    ((Memref.whole cc0_stg5_0).access oRect : View sig .tc _ _ _).write (Elt F) f w Finset.univ = w :=
  Memref.write_access_unit_zero_univ (Elt F) cc0_stg5_0 hz3 _ f w

/-! ## The semaphores of the three hops -/

/-- The semaphore hop 0 sends on. -/
theorem sem_s0 : ((cc0_scratch1.slice (Rect.unit (s := S3) ![0] S1.size inb_S3_S1_0)).squeeze S_ squeezes_S1_S_).sem = sendS 0 := by decide
/-- The semaphore hop 1 sends on. -/
theorem sem_s1 : ((cc0_scratch1.slice (Rect.unit (s := S3) ![1] S1.size inb_S3_S1_1)).squeeze S_ squeezes_S1_S_).sem = sendS 1 := by decide
/-- The semaphore hop 2 sends on. -/
theorem sem_s2 : ((cc0_scratch1.slice (Rect.unit (s := S3) ![2] S1.size inb_S3_S1_2)).squeeze S_ squeezes_S1_S_).sem = sendS 2 := by decide
/-- The semaphore hop 0 lands on. -/
theorem sem_r0 : ((cc0_scratch2.slice (Rect.unit (s := S3) ![0] S1.size inb_S3_S1_0)).squeeze S_ squeezes_S1_S_).sem = recvS 0 := by decide
/-- The semaphore hop 1 lands on. -/
theorem sem_r1 : ((cc0_scratch2.slice (Rect.unit (s := S3) ![1] S1.size inb_S3_S1_1)).squeeze S_ squeezes_S1_S_).sem = recvS 1 := by decide
/-- The semaphore hop 2 lands on. -/
theorem sem_r2 : ((cc0_scratch2.slice (Rect.unit (s := S3) ![2] S1.size inb_S3_S1_2)).squeeze S_ squeezes_S1_S_).sem = recvS 2 := by decide

/-! ## The body -/

/-- Hop 0 reads slot 0. -/
theorem slot_s0 : ((Memref.whole cc0_scratch0).slice (Rect.unit (s := S4x2x128x512) ![0, 0, 0, 0] S1x2x128x512.size inb_S4x2x128x512_S1x2x128x512_0_0_0_0) (fun _ => rfl)).squeeze
    S2x128x512 squeezes_S1x2x128x512_S2x128x512 = slotM (Fin.castSucc (0 : Fin 3)) := rfl
/-- Hop 0 writes slot 1. -/
theorem slot_d0 : ((Memref.whole cc0_scratch0).slice (Rect.unit (s := S4x2x128x512) ![1, 0, 0, 0] S1x2x128x512.size inb_S4x2x128x512_S1x2x128x512_1_0_0_0) (fun _ => rfl)).squeeze
    S2x128x512 squeezes_S1x2x128x512_S2x128x512 = slotM (Fin.succ (0 : Fin 3)) := rfl
/-- Hop 1 reads slot 1. -/
theorem slot_s1 : ((Memref.whole cc0_scratch0).slice (Rect.unit (s := S4x2x128x512) ![1, 0, 0, 0] S1x2x128x512.size inb_S4x2x128x512_S1x2x128x512_1_0_0_0) (fun _ => rfl)).squeeze
    S2x128x512 squeezes_S1x2x128x512_S2x128x512 = slotM (Fin.castSucc (1 : Fin 3)) := rfl
/-- Hop 1 writes slot 2. -/
theorem slot_d1 : ((Memref.whole cc0_scratch0).slice (Rect.unit (s := S4x2x128x512) ![2, 0, 0, 0] S1x2x128x512.size inb_S4x2x128x512_S1x2x128x512_2_0_0_0) (fun _ => rfl)).squeeze
    S2x128x512 squeezes_S1x2x128x512_S2x128x512 = slotM (Fin.succ (1 : Fin 3)) := rfl
/-- Hop 2 reads slot 2. -/
theorem slot_s2 : ((Memref.whole cc0_scratch0).slice (Rect.unit (s := S4x2x128x512) ![2, 0, 0, 0] S1x2x128x512.size inb_S4x2x128x512_S1x2x128x512_2_0_0_0) (fun _ => rfl)).squeeze
    S2x128x512 squeezes_S1x2x128x512_S2x128x512 = slotM (Fin.castSucc (2 : Fin 3)) := rfl
/-- Hop 2 writes slot 3. -/
theorem slot_d2 : ((Memref.whole cc0_scratch0).slice (Rect.unit (s := S4x2x128x512) ![3, 0, 0, 0] S1x2x128x512.size inb_S4x2x128x512_S1x2x128x512_3_0_0_0) (fun _ => rfl)).squeeze
    S2x128x512 squeezes_S1x2x128x512_S2x128x512 = slotM (Fin.succ (2 : Fin 3)) := rfl

omit [FloatOps F] in
/-- Slot 0 after the device has written both batches, as held. -/
theorem slot0_held (I : Dev nD → Ins F) (c : Dev nD) (f : Scr F) [FloatOps F] :
    (((c : Thread nD τ).loc cc0_scratch0) ↦[slotSet 0]{fullShare}
        ((sAcc 1).write (Elt F) ((sAcc 0).write (Elt F) f (sc0 c (I c)) Finset.univ) (sc1 c (I c)) Finset.univ : Scr F) : sProp 𝕄)
      ⊢ slotPts c 0 (ringBuf I c) :=
  Entails.of_eq (slotPts_congr c 0 fun i hi => slot0_written I c f i hi)

/-- The number 0 of two. -/
theorem v20 : ((0 : Fin 2) : ℕ) = 0 := rfl
/-- The number 1 of two. -/
theorem v21 : ((1 : Fin 2) : ℕ) = 1 := rfl
/-- The number 0 of four. -/
theorem v40 : ((0 : Fin 4) : ℕ) = 0 := rfl
/-- The number 1 of four. -/
theorem v41 : ((1 : Fin 4) : ℕ) = 1 := rfl
/-- The number 2 of four. -/
theorem v42 : ((2 : Fin 4) : ℕ) = 2 := rfl
/-- The number 3 of four. -/
theorem v43 : ((3 : Fin 4) : ℕ) = 3 := rfl

/-- The result buffer after both batches have been written, as held. -/
theorem out_held (c : Dev nD) (J : Ins F) (g : (cc0_stg5_0 : Ref sig .tc).ty.Contents (Elt F)) :
    (((c : Thread nD τ).loc cc0_stg5_0) ↦{fullShare}
        ((oAcc 1).write (Elt F) ((oAcc 0).write (Elt F) g (st0 c J) Finset.univ) (st1 c J) Finset.univ : (cc0_stg5_0 : Ref sig .tc).ty.Contents (Elt F)) : sProp 𝕄)
      ⊢ (((c : Thread nD τ).loc cc0_stg5_0) ↦{fullShare} ownOut c J) :=
  Entails.of_eq (congrArg (fun f : (cc0_stg5_0 : Ref sig .tc).ty.Contents (Elt F) => (((c : Thread nD τ).loc cc0_stg5_0) ↦{fullShare} f : sProp 𝕄)) (out_written c J g))

omit [FloatOps F] in
/-- Owing nothing, a device may wait on anything. -/
theorem mayWait_none (c : Dev nD) (sm : SemLoc sig) : (levAts L lv : sProp 𝕄) ⊢ MayWait (c : Thread nD τ) sm () 0 := by
  rw [MayWait_zero]; iintro -; iempintro

set_option maxHeartbeats 4000000 in
/-- The body, executed from `bodyPre`, one rule per effect in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2) Kt := by
  simp only [cc0_body_eq_skeleton]; unfold cc0_body_skel
  simp only [k0_part12_eq_skeleton]; unfold k0_part12_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel
    k0_part11_skel
  simp only [semSignalWord, semWaitWord, Prog.lift, Prog.bind_op, Prog.bind_ret, Prog.pure_eq_ret, wp_deviceId]
  unfold bodyPre linear posAll payToks creds
  iintro ⟨⟨⟨#HK, ⟨⟨HaB, HaS0, HaS1, HaS2, HaR0, HaR1, HaR2⟩, HtBN, HtBP, HtS0, HtS1, HtS2, HtR0, HtR1, HtR2⟩, ⟨HcB, HcR0, HcR1, HcR2⟩, #Hlev, ⟨%f0, Hscr⟩⟩,
    Ho, ⟨%d0, %g0, %hg0, Hx⟩, ⟨%d1, %g1, %hg1, Hwq⟩, ⟨%d2, %g2, %hg2, HK'⟩, ⟨%d3, %g3, %hg3, HV⟩, ⟨%d4, %g4, %hg4, Hwo⟩, ⟨%d5, %g5, %hg5, Hout⟩⟩, Hk⟩
  have hx0 : g0 = (ins m ρ c).x := by rw [hg0]; unfold Dat.before; rw [if_pos (fetch_w 0 (by decide))]; rfl
  have hx1 : g1 = (ins m ρ c).wq := by rw [hg1]; unfold Dat.before; rw [if_pos (fetch_w 1 (by decide))]; rfl
  have hx2 : g2 = (ins m ρ c).k := by rw [hg2]; unfold Dat.before; rw [if_pos (fetch_w 2 (by decide))]; rfl
  have hx3 : g3 = (ins m ρ c).v := by rw [hg3]; unfold Dat.before; rw [if_pos (fetch_w 3 (by decide))]; rfl
  have hx4 : g4 = (ins m ρ c).wo := by rw [hg4]; unfold Dat.before; rw [if_pos (fetch_w 4 (by decide))]; rfl
  subst hx0 hx1 hx2 hx3 hx4
  unfold Dat.owesAt Pipeline.owesWithin
  icases Ho with ⟨%W, %hW, HO⟩
  rw [show (dats m ρ 0 c).owed t₀.castSucc = owe0 c from rfl]
  simp only [dev1_eq c, dev2_eq c]
  ihave Hslots := (Entails.of_eq (scratch_slots c f0)) $$ Hscr
  icases Hslots with ⟨Hsl0, Hsl1, Hsl2, Hsl3⟩
  -- the word to the left neighbour, with slots 1, 2 and 3
  unfold owe0
  iapply (Rounds.wp_signal 𝒱₀ ER (rd (ins m ρ)) (c : Thread nD τ) none (dst := (lft c : Thread nD τ)) (κ := K (lft c, 0))
      (d := true) (by rw [duties_bar]; exact Finset.mem_univ _) ((amount_bar (ringBuf (ins m ρ)) (lft c) true).trans (by decide)) () (oweB c) rfl)
    $$ [HO HtBP Hsl1 Hsl2 Hsl3]
  · isplitr; · iapply (inv_at (ins m ρ) K (lft c, 0) _ rfl); iexact HK
    isplitl [HO]; · iexact HO
    isplitl [HtBP]; · iexact HtBP
    isplitl [Hsl1 Hsl2 Hsl3]
    · rw [payload_bar_true]; unfold barPay; rw [rgt_lft]
      iexists f0
      isplitl [Hsl1]; · iexact Hsl1
      isplitl [Hsl2] <;> iassumption
    · iapply (reached_at (ins m ρ) K (lft c, 0) _ rfl); iexact HK
  iintro HO
  -- the word to the right neighbour
  unfold oweB
  iapply (Rounds.wp_signal 𝒱₀ ER (rd (ins m ρ)) (c : Thread nD τ) none (dst := (rgt c : Thread nD τ)) (κ := K (rgt c, 0))
      (d := false) (by rw [duties_bar]; exact Finset.mem_univ _) ((amount_bar (ringBuf (ins m ρ)) (rgt c) false).trans (by decide)) () (owe1 c) rfl)
    $$ [HO HtBN]
  · isplitr; · iapply (inv_at (ins m ρ) K (rgt c, 0) _ rfl); iexact HK
    isplitl [HO]; · iexact HO
    isplitl [HtBN]; · iexact HtBN
    isplitr; · rw [payload_bar_false]; iempintro
    iapply (reached_at (ins m ρ) K (rgt c, 0) _ rfl); iexact HK
  iintro HO
  -- the wait for both neighbours' words
  iapply (Rounds.wp_wait_rest_token 𝒱₀ ER (rd (ins m ρ)) (c : Thread nD τ) none (κ := K (c, 0))
      (wpE_semWait_eq 𝒱₀ (c : Thread nD τ) none Set.univ) (Set.mem_univ _) () (O := owe1 c) (W := W) (R := 0) (m := 0) (T := ∅)
      (by rw [expect_bar]; decide)) $$ [HcB HO HaB]
  · isplitr; · iapply (inv_at (ins m ρ) K (c, 0) _ rfl); iexact HK
    isplitl [HcB]; · iexact HcB
    isplitl [HO]; · iexact HO
    isplitr; · iapply (mayWait_bar c); iexact Hlev
    iexact HaB
  iintro ⟨HO, HaB, -, Hpay⟩
  ihave Hp := (Entails.of_eq (rest_bar (ringBuf (ins m ρ)) c)) $$ Hpay
  unfold barPay
  icases Hp with ⟨-, ⟨%fn, Hn1, Hn2, Hn3⟩⟩
  -- the two projections
  iapply (wp_load 𝒱₀ (c : Thread nD τ) none Set.univ (m := Memref.whole cc0_stg1_0) (Finset.subset_univ _)) $$ Hwq; iintro Hwq
  iapply (wp_load 𝒱₀ (c : Thread nD τ) none Set.univ (m := Memref.whole cc0_stg4_0) (Finset.subset_univ _)) $$ Hwo; iintro Hwo
  -- batch 0
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg2_0) (Finset.subset_univ _)) $$ HK'; iintro HK'
  iapply (wp_load 𝒱₀ (c : Thread nD τ) none Set.univ (m := Memref.whole cc0_stg3_0) (Finset.subset_univ _)) $$ HV; iintro HV
  iapply (wp_load 𝒱₀ (c : Thread nD τ) none Set.univ (m := Memref.whole cc0_stg2_0) (Finset.subset_univ _)) $$ HK'; iintro HK'
  iapply (wp_load 𝒱₀ (c : Thread nD τ) none Set.univ (m := Memref.whole cc0_stg3_0) (Finset.subset_univ _)) $$ HV; iintro HV
  iapply (wp_load 𝒱₀ (c : Thread nD τ) none Set.univ (m := Memref.whole cc0_stg2_0) (Finset.subset_univ _)) $$ HK'; iintro HK'
  iapply (wp_load 𝒱₀ (c : Thread nD τ) none Set.univ (m := Memref.whole cc0_stg3_0) (Finset.subset_univ _)) $$ HV; iintro HV
  iapply (wp_load 𝒱₀ (c : Thread nD τ) none Set.univ (m := Memref.whole cc0_stg2_0) (Finset.subset_univ _)) $$ HK'; iintro HK'
  iapply (wp_load 𝒱₀ (c : Thread nD τ) none Set.univ (m := Memref.whole cc0_stg3_0) (Finset.subset_univ _)) $$ HV; iintro HV
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0) (r := xRect 0) (Mk := Finset.univ) (Finset.subset_univ _)) $$ Hout; iintro Hout
  unfold slotPts
  iapply (wp_load_rect 𝒱₀ (c : Thread nD τ) none Set.univ (m := Memref.whole cc0_scratch0) (r := sRect 0) (le_of_eq_of_le (sAcc_set 0) (sRect_sub 0))) $$ Hsl0
  iintro Hsl0
  iapply (wp_store 𝒱₀ (c : Thread nD τ) none Set.univ (m := Memref.whole cc0_scratch0) (r := sRect 0) (Mk := Finset.univ) (le_of_eq_of_le (sAcc_set 0) (sRect_sub 0))) $$ Hsl0
  iintro Hsl0
  -- batch 1
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg2_0) (Finset.subset_univ _)) $$ HK'; iintro HK'
  iapply (wp_load 𝒱₀ (c : Thread nD τ) none Set.univ (m := Memref.whole cc0_stg3_0) (Finset.subset_univ _)) $$ HV; iintro HV
  iapply (wp_load 𝒱₀ (c : Thread nD τ) none Set.univ (m := Memref.whole cc0_stg2_0) (Finset.subset_univ _)) $$ HK'; iintro HK'
  iapply (wp_load 𝒱₀ (c : Thread nD τ) none Set.univ (m := Memref.whole cc0_stg3_0) (Finset.subset_univ _)) $$ HV; iintro HV
  iapply (wp_load 𝒱₀ (c : Thread nD τ) none Set.univ (m := Memref.whole cc0_stg2_0) (Finset.subset_univ _)) $$ HK'; iintro HK'
  iapply (wp_load 𝒱₀ (c : Thread nD τ) none Set.univ (m := Memref.whole cc0_stg3_0) (Finset.subset_univ _)) $$ HV; iintro HV
  iapply (wp_load 𝒱₀ (c : Thread nD τ) none Set.univ (m := Memref.whole cc0_stg2_0) (Finset.subset_univ _)) $$ HK'; iintro HK'
  iapply (wp_load 𝒱₀ (c : Thread nD τ) none Set.univ (m := Memref.whole cc0_stg3_0) (Finset.subset_univ _)) $$ HV; iintro HV
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0) (r := xRect 1) (Mk := Finset.univ) (Finset.subset_univ _)) $$ Hout; iintro Hout
  iapply (wp_load_rect 𝒱₀ (c : Thread nD τ) none Set.univ (m := Memref.whole cc0_scratch0) (r := sRect 1) (le_of_eq_of_le (sAcc_set 1) (sRect_sub 1))) $$ Hsl0
  iintro Hsl0
  iapply (wp_store 𝒱₀ (c : Thread nD τ) none Set.univ (m := Memref.whole cc0_scratch0) (r := sRect 1) (Mk := Finset.univ) (le_of_eq_of_le (sAcc_set 1) (sRect_sub 1))) $$ Hsl0
  iintro Hsl0
  have hs0 := slot0_held (ins m ρ) c f0
  have ho := out_held c (ins m ρ c) g5
  unfold sc0 sc1 msk mskA mskB xAt kAt vAt wqAt woAt xRect kvRect at hs0
  unfold st0 st1 msk mskA mskB xAt kAt vAt wqAt woAt xRect kvRect at ho
  simp only [v20, v21, v40, v41, v42, v43] at hs0 ho
  ihave Hcur := hs0 $$ Hsl0
  ihave Hout := ho $$ Hout
  -- hop 0
  iapply (wp_hop (ins m ρ) K c _ (dev3_eq c) 0 _ _ slot_s0 slot_d0 _ _ _ _ sem_s0  sem_r0 sem_s0 sem_r0 (owe1 c) (owe2 c) rfl (mayWait_send c 0 _ (.inl rfl)) (mayWait_recv0 c) fn _) $$ [HO Hcur Hn1 HtS0 HtR0 HcR0 HaS0 HaR0]
  · isplitr; · iexact HK
    isplitr; · iexact Hlev
    unfold hopIn slotPts
    isplitl [Hcur]; · iexact Hcur
    isplitl [Hn1]; · iexact Hn1
    isplitl [HO]; · iexact HO
    isplitl [HtS0]; · iexact HtS0
    isplitl [HtR0]; · iexact HtR0
    isplitl [HcR0]; · iexact HcR0
    isplitl [HaS0] <;> iassumption
  unfold hopOut
  iintro ⟨%W1, HO, Hsl0, Hcur, HzS0, HzR0⟩
  ihave Hcur := (Entails.of_eq (show slotPts c (Fin.succ 0) (ringBuf (ins m ρ) c) = slotPts c 1 (ringBuf (ins m ρ) c) from rfl)) $$ Hcur
  unfold slotPts
  iapply (wp_load 𝒱₀ (c : Thread nD τ) none Set.univ (m := Memref.whole cc0_stg5_0) (Finset.subset_univ _)) $$ Hout; iintro Hout
  rw [read_out]
  iapply (wp_load_rect 𝒱₀ (c : Thread nD τ) none Set.univ (m := Memref.whole cc0_scratch0) (r := slotRect 1) (le_of_eq (View.set_slice_whole cc0_scratch0 (slotRect 1)))) $$ Hcur
  iintro Hcur
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0) (r := oRect) (Mk := Finset.univ) (Finset.subset_univ _)) $$ Hout; iintro Hout
  rw [write_out]
  -- hop 1
  iapply (wp_hop (ins m ρ) K c _ (dev4_eq c) 1 _ _ slot_s1 slot_d1 _ _ _ _ sem_s1  sem_r1 sem_s1 sem_r1 (owe2 c) (owe3 c) rfl (mayWait_send c 1 _ (.inr (.inl rfl))) (mayWait_recv1 c) fn W1) $$ [HO Hcur Hn2 HtS1 HtR1 HcR1 HaS1 HaR1]
  · isplitr; · iexact HK
    isplitr; · iexact Hlev
    unfold hopIn slotPts
    isplitl [Hcur]; · iexact Hcur
    isplitl [Hn2]; · iexact Hn2
    isplitl [HO]; · iexact HO
    isplitl [HtS1]; · iexact HtS1
    isplitl [HtR1]; · iexact HtR1
    isplitl [HcR1]; · iexact HcR1
    isplitl [HaS1] <;> iassumption
  unfold hopOut
  iintro ⟨%W2, HO, Hsl1, Hcur, HzS1, HzR1⟩
  ihave Hcur := (Entails.of_eq (show slotPts c (Fin.succ 1) (ringBuf (ins m ρ) c) = slotPts c 2 (ringBuf (ins m ρ) c) from rfl)) $$ Hcur
  unfold slotPts
  iapply (wp_load 𝒱₀ (c : Thread nD τ) none Set.univ (m := Memref.whole cc0_stg5_0) (Finset.subset_univ _)) $$ Hout; iintro Hout
  rw [read_out]
  iapply (wp_load_rect 𝒱₀ (c : Thread nD τ) none Set.univ (m := Memref.whole cc0_scratch0) (r := slotRect 2) (le_of_eq (View.set_slice_whole cc0_scratch0 (slotRect 2)))) $$ Hcur
  iintro Hcur
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0) (r := oRect) (Mk := Finset.univ) (Finset.subset_univ _)) $$ Hout; iintro Hout
  rw [write_out]
  -- hop 2
  iapply (wp_hop (ins m ρ) K c _ (dev5_eq c) 2 _ _ slot_s2 slot_d2 _ _ _ _ sem_s2  sem_r2 sem_s2 sem_r2 (owe3 c) (0) rfl (mayWait_send c 2 _ (.inr (.inr rfl))) (mayWait_none c _) fn W2) $$ [HO Hcur Hn3 HtS2 HtR2 HcR2 HaS2 HaR2]
  · isplitr; · iexact HK
    isplitr; · iexact Hlev
    unfold hopIn slotPts
    isplitl [Hcur]; · iexact Hcur
    isplitl [Hn3]; · iexact Hn3
    isplitl [HO]; · iexact HO
    isplitl [HtS2]; · iexact HtS2
    isplitl [HtR2]; · iexact HtR2
    isplitl [HcR2]; · iexact HcR2
    isplitl [HaS2] <;> iassumption
  unfold hopOut
  iintro ⟨%W3, HO, Hsl2, Hcur, HzS2, HzR2⟩
  ihave Hcur := (Entails.of_eq (show slotPts c (Fin.succ 2) (ringBuf (ins m ρ) c) = slotPts c 3 (ringBuf (ins m ρ) c) from rfl)) $$ Hcur
  unfold slotPts
  iapply (wp_load 𝒱₀ (c : Thread nD τ) none Set.univ (m := Memref.whole cc0_stg5_0) (Finset.subset_univ _)) $$ Hout; iintro Hout
  rw [read_out]
  iapply (wp_load_rect 𝒱₀ (c : Thread nD τ) none Set.univ (m := Memref.whole cc0_scratch0) (r := slotRect 3) (le_of_eq (View.set_slice_whole cc0_scratch0 (slotRect 3)))) $$ Hcur
  iintro Hcur
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0) (r := oRect) (Mk := Finset.univ) (Finset.subset_univ _)) $$ Hout; iintro Hout
  rw [write_out]
  rw [wp_ret]
  imod (Rounds.cell_close ER (rd (ins m ρ)) (Set.mem_univ (K (c, 0))) (fun h => h) (R := 0 + 1) (duties_later (ringBuf (ins m ρ)) (barCell c))) $$ [HaB] with HzB
  · isplitr; · iapply (inv_at (ins m ρ) K (c, 0) _ rfl); iexact HK
    iexact HaB
  imodintro
  iapply Hk
  unfold bodyPost Φ₁ zeros Dat.owesAt Pipeline.owesWithin
  rw [show (dats m ρ 0 c).owed t₀.succ = 0 from rfl]
  isplitl [HzB HzS0 HzS1 HzS2 HzR0 HzR1 HzR2 Hsl0 Hsl1 Hsl2 Hcur]
  · isplitl [HzB HzS0 HzS1 HzS2 HzR0 HzR1 HzR2]
    · isplitl [HzB]; · iexact HzB
      isplitl [HzS0]; · iexact HzS0
      isplitl [HzS1]; · iexact HzS1
      isplitl [HzS2]; · iexact HzS2
      isplitl [HzR0]; · iexact HzR0
      isplitl [HzR1] <;> iassumption
    · iapply (Entails.of_eq (scratch_slots c (ringBuf (ins m ρ) c)).symm)
      unfold slotPts
      isplitl [Hsl0]; · iexact Hsl0
      isplitl [Hsl1]; · iexact Hsl1
      isplitl [Hsl2]; · iexact Hsl2
      iexact Hcur
  isplitl [HO]
  · iexists W3
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [HK']
  · iexists _; isplitr; · (ipureintro; rfl)
    iexact HK'
  isplitl [HV]
  · iexists _; isplitr; · (ipureintro; rfl)
    iexact HV
  isplitl [Hwo]
  · iexists _; isplitr; · (ipureintro; rfl)
    iexact Hwo
  iexists _; isplitr; · (ipureintro; rfl)
  iexact Hout

end Cert.RingAttn

end
-- ==== Proof.Launch.lean ====
/-
The launch: what the devices hold together at the start, how it is dealt out among them, and the run of the whole
program from any memory.
-/
module

public import proofs.«01_k».proof.Proof.Body
public import Idealize.ShloMosaic.Lib.Pipeline.CollectiveSegs

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the launch asks for it -/

/-- What the body runs from, resource by resource. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

/-- The body's run on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2) (fun _ => bodyPost m ρ c)
  unfold bodyPre' Φ₀ start
  iintro ⟨⟨⟨⟨%K, HK, Hlin⟩, Hcr, Hlev⟩, Hscr⟩, Ho, Hst⟩
  iapply (sound_body m ρ K c fun _ => bodyPost m ρ c)
  unfold bodyPre
  isplitr []
  · isplitl [HK Hlin Hcr Hlev Hscr]
    · isplitl [HK]; · iexact HK
      isplitl [Hlin]; · iexact Hlin
      isplitl [Hcr]; · iexact Hcr
      isplitl [Hlev] <;> iassumption
    isplitl [Ho] <;> iassumption
  · iintro H; iexact H

/-! ## What is dealt out -/

/-- The scratch semaphores are the six named. -/
theorem ownSemFacts : Pipeline.OwnSemFacts cfg0.spec osem := by decide

/-- Every array is held whole. -/
theorem share_eq (c : Dev nD) (w : Fin cfg0.W) : (dats m ρ 0 c).share w = fullShare := by unfold Dat.share; split <;> rfl

/-- Different numbers name different cells. -/
theorem kcell_injective : Function.Injective (kcell : Dev nD × Fin 7 → GSem nD τ sig) := by
  rintro ⟨c, k⟩ ⟨c', k'⟩ h
  have h1 : c = c' := congrArg (fun g : GSem nD τ sig => g.1.1) h
  have h2 : csem k = csem k' := congrArg Prod.snd h
  have hinj : ∀ a b : Fin 7, csem a = csem b → a = b := by decide
  rw [h1, hinj k k' h2]

/-- All the semaphores of the kernel. -/
def allCells : Finset (GSem nD τ sig) := Finset.univ.map ⟨kcell, kcell_injective⟩

/-- The place of duty `j`'s semaphore. -/
abbrev tokIx (j : Fin 8) : Fin 7 := match j with | 0 => 0 | 1 => 0 | 2 => 1 | 3 => 2 | 4 => 3 | 5 => 4 | 6 => 5 | 7 => 6
/-- Which of the two duties at the barrier a token is for. -/
abbrev tokBit (j : Fin 8) : Bool := match j with | 1 => true | _ => false
/-- The duties on a device's own semaphores: two on the barrier, one on each of the others. -/
abbrev tokOf (cj : Dev nD × Fin 8) : GSem nD τ sig × ℕ × Bool := (kcell (cj.1, tokIx cj.2), 0, tokBit cj.2)

/-- Different numbers name different duties. -/
theorem tokOf_injective : Function.Injective (tokOf : Dev nD × Fin 8 → GSem nD τ sig × ℕ × Bool) := by
  rintro ⟨c, j⟩ ⟨c', j'⟩ h
  have hk : (c, tokIx j) = (c', tokIx j') := kcell_injective (congrArg Prod.fst h)
  have hb : tokBit j = tokBit j' := congrArg (fun x : GSem nD τ sig × ℕ × Bool => x.2.2) h
  have hinj : ∀ a b : Fin 8, tokIx a = tokIx b → tokBit a = tokBit b → a = b := by decide
  rw [(Prod.mk.inj hk).1, hinj j j' (Prod.mk.inj hk).2 hb]
/-- All duties on all devices. -/
def allToks : Finset (GSem nD τ sig × ℕ × Bool) := Finset.univ.map ⟨tokOf, tokOf_injective⟩

/-- The resource at the start. -/
def u₀ : UU :=
  (initOf (Pipeline.cells cfgs cellOf_inj) (Pipeline.launchToks cfgs cellOf_inj), initOf allCells allToks)

/-- The duties on device `c`'s own semaphores. -/
def toks (c : Dev nD) : sProp 𝕄 :=
  iprop(dutyTok ER (barCell c) 0 false ∗ dutyTok ER (barCell c) 0 true
    ∗ dutyTok ER (sendCell c 0) 0 false ∗ dutyTok ER (sendCell c 1) 0 false ∗ dutyTok ER (sendCell c 2) 0 false
    ∗ dutyTok ER (recvCell c 0) 0 false ∗ dutyTok ER (recvCell c 1) 0 false ∗ dutyTok ER (recvCell c 2) 0 false)

/-- What device `c` is dealt at launch. -/
def G (c : Dev nD) : sProp 𝕄 :=
  iprop((bigSep Finset.univ fun k : Fin 7 => roundState ER (rd (ins m ρ)) (kcell (c, k)) 0)
    ∗ (bigSep Finset.univ fun k : Fin 7 => iprop(atPos ER (kcell (c, k)) 0 ∅ 0 ∗ reached ER (kcell (c, k)) 0)) ∗ toks c)

/-- What it has once the invariants are in place. -/
def G' (c : Dev nD) : sProp 𝕄 := iprop(∃ K, records (ins m ρ) K ∗ linear c)

omit [FloatOps F] in
/-- Seven resources, one for each of seven numbers. -/
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
/-- Eight resources, one for each of eight numbers. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The resource at the start gives every device its rounds. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_fin8]; rfl
  iintro HX
  imod (Rounds.fund ER (rd (ins m ρ)) allCells allToks) $$ HX with ⟨Hst, Hr, Hat, Htok⟩
  imodintro
  ihave Hst' := (Entails.of_eq (hX fun g => roundState ER (rd (ins m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- A device's scratch semaphores at zero, one by one. -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
omit [FloatOps F] in
/-- A device's barrier semaphore at zero. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- All of a device's semaphores at zero, by cell. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨HS, HB⟩
  isplitl [HB]; · iexact HB
  iexact HS

/-- A device's cells get their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd (ins m ρ)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (rd (ins m ρ)) (kcell (c, k)) 0)
      ⊢ (|={Set.univ}=> bigSep Finset.univ fun k => iprop(∃ κ : ℕ, cellInv ER (rd (ins m ρ)) κ (kcell (c, k))) : sProp 𝕄) from by
        rw [← bigSep_sep']
        exact (bigSep_mono fun k _ => (Rounds.body_intro ER (rd (ins m ρ)) (kcell (c, k))).trans inv_alloc).trans (bigSep_fupd _ _)) $$ [Hv Hst] with Hinv
  · isplitl [Hv] <;> iassumption
  imodintro
  isplitl [Hinv]; · iexact Hinv
  isplitl [Hat] <;> iassumption

omit [FloatOps F] in
/-- The duties dealt around the ring: each goes to the device that pays it. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (dutyTok ER (recvCell c 0) 0 false : sProp 𝕄)),
    bigSep_univ_equiv ring (fun c : Dev nD => (dutyTok ER (recvCell c 1) 0 false : sProp 𝕄)),
    bigSep_univ_equiv ring (fun c : Dev nD => (dutyTok ER (recvCell c 2) 0 false : sProp 𝕄))]
  exact BI.Entails.refl _

omit [FloatOps F] in
/-- A reusable fact may be given to each of many. -/
theorem with_persistent {J : Type} [DecidableEq J] {S : Finset J} {P : sProp 𝕄} [BI.Persistent P] {Φ Ψ : J → sProp 𝕄}
    (h : ∀ i ∈ S, iprop(P ∗ Φ i) ⊢ Ψ i) : iprop(P ∗ bigSep S Φ) ⊢ bigSep S Ψ :=
  (sep_mono_left (BI.bigSep_of_persistent S P)).trans (by rw [← bigSep_sep']; exact bigSep_mono h)

/-- A device's share from the records and what it alone may use. -/
theorem ghost_intro (K : Dev nD × Fin 7 → ℕ) (c : Dev nD) : iprop(records (ins m ρ) K ∗ linear c) ⊢ G' m ρ c := by
  unfold G'
  iintro H
  iexists K
  iexact H

/-- Each duty's token goes to the device that pays it. -/
theorem regroup :
    (bigSep Finset.univ fun c : Dev nD => iprop((bigSep Finset.univ fun k => iprop(∃ κ : ℕ, cellInv ER (rd (ins m ρ)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (rd (ins m ρ)) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (rd (ins m ρ)) κ (kcell ck) : sProp 𝕄))) $$ HI
  icases HK with ⟨%K, #HI⟩
  ihave Htk := (toks_around (F := F)) $$ Htok
  iapply (with_persistent (P := records (ins m ρ) K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear posAll; rw [bigSep_fin7])))
    isplitl [Hat] <;> iassumption

/-- The invariants put in place, on all the devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

/-- Equal cells have equal devices and semaphores. -/
theorem dev_of_cell {a b : Dev nD} {s t : SemLoc sig} (h : (((a : Thread nD τ), s) : GSem nD τ sig) = ((b : Thread nD τ), t)) : a = b ∧ s = t :=
  ⟨congrArg (fun g : GSem nD τ sig => g.1.1) h, congrArg Prod.snd h⟩

/-- A device is right of another when that one is left of it. -/
theorem eq_lft {c d : Dev nD} : Iff (c = rgt d) (d = lft c) := ⟨fun h => by rw [h, lft_rgt], fun h => by rw [h, rgt_lft]⟩
/-- A device is left of another when that one is right of it. -/
theorem eq_rgt {c d : Dev nD} : Iff (c = lft d) (d = rgt c) := ⟨fun h => by rw [h, rgt_lft], fun h => by rw [h, lft_rgt]⟩

/-- Different hops have different receive semaphores. -/
theorem recvS_ne : ∀ h h' : Fin 3, (SemLoc.dma (recvS h) : SemLoc sig) = .dma (recvS h') → h = h' := by decide

/-- What is owed at one semaphore by a single entry. -/
theorem tally_cell (a b : Dev nD) (s t : SemLoc sig) (n : ℕ) :
    (tallyAt ((b : Thread nD τ), t) () n : CellTallies nD τ sig Unit) ((a : Thread nD τ), s) () = if a = b ∧ s = t then n else 0 := by
  rw [tallyAt_apply]
  by_cases h : a = b ∧ s = t
  · rw [if_pos h, if_pos ⟨by rw [h.1, h.2], rfl⟩]
  · rw [if_neg h, if_neg fun h' => h (dev_of_cell h'.1)]

/-- What a device owes at a cell. -/
theorem owed_cell (d c : Dev nD) (s : SemLoc sig) : owe0 d ((c : Thread nD τ), s) ()
    = (if c = rgt d ∧ s = .dma (recvS 2) then N else 0) + (if c = rgt d ∧ s = .dma (recvS 1) then N else 0)
      + (if c = rgt d ∧ s = .dma (recvS 0) then N else 0) + (if c = rgt d ∧ s = .reg barS then 1 else 0) + (if c = lft d ∧ s = .reg barS then 1 else 0) := by
  unfold owe0 oweB owe1 owe2 owe3
  rw [Pi.add_apply, Finsupp.add_apply, Pi.add_apply, Finsupp.add_apply, Pi.add_apply, Finsupp.add_apply, Pi.add_apply, Finsupp.add_apply,
    Pi.add_apply, Finsupp.add_apply, tally_cell, tally_cell, tally_cell, tally_cell, tally_cell]
  exact congrArg (fun x => x + _ + _ + _ + _) (Nat.zero_add _)

/-- What a device owes at a barrier cell. -/
theorem owed_bar (d c : Dev nD) : owe0 d (barCell c) () = (if d = lft c then 1 else 0) + (if d = rgt c then 1 else 0) := by
  rw [owed_cell]
  simp only [reduceCtorEq, and_false, if_false, and_true, Nat.zero_add,
    show (c = rgt d) = (d = lft c) from propext eq_lft, show (c = lft d) = (d = rgt c) from propext eq_rgt]

/-- What a device owes at a receive cell. -/
theorem owed_recv (d c : Dev nD) (h : Fin 3) : owe0 d (recvCell c h) () = if d = lft c then N else 0 := by
  rw [owed_cell]
  have e (h' : Fin 3) : ((SemLoc.dma (recvS h) : SemLoc sig) = .dma (recvS h')) = (h = h') := propext ⟨recvS_ne h h', fun e => by rw [e]⟩
  simp only [e, reduceCtorEq, and_false, if_false, Nat.add_zero, show (c = rgt d) = (d = lft c) from propext eq_lft]
  fin_cases h <;> simp

/-- Two credits in all at each barrier. -/
theorem launch_bar (c : Dev nD) :
    tallyOn (barCell c) (launchCredit (Pipeline.owing owe0) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lft c) fun _ => 1, Finset.sum_ite_eq' Finset.univ (rgt c) fun _ => 1, if_pos (Finset.mem_univ _), if_pos (Finset.mem_univ _)]

/-- One transfer's credit in all at each receive cell. -/
theorem launch_recv (c : Dev nD) (h : Fin 3) :
    tallyOn (recvCell c h) (launchCredit (Pipeline.owing owe0) 0 (recvCell c h)) = (tallyAt (recvCell c h) () N : CellTallies nD τ sig Unit) := by
  unfold tallyAt; refine congrArg _ (Finsupp.ext fun u => ?_); cases u
  rw [Pipeline.launchCredit_owing, Finsupp.single_eq_same, Finset.sum_congr rfl fun d _ => owed_recv d c h, Finset.sum_ite_eq' Finset.univ (lft c) fun _ => N,
    if_pos (Finset.mem_univ _)]

omit [FloatOps F] in
/-- The semaphores whose credits are kept: the barrier's and the three receive ones. -/
theorem creds_intro (c : Dev nD) : (Pipeline.launchCred owe0 c : sProp 𝕄) ⊢ creds c := by
  unfold Pipeline.launchCred creds
  let T : Finset (SemLoc sig) := {.reg barS, .dma (recvS 0), .dma (recvS 1), .dma (recvS 2)}
  rw [← launch_bar, ← launch_recv, ← launch_recv, ← launch_recv]
  have h := bigSep_eq_bigSepL_of_eq (S := T) [SemLoc.reg barS, .dma (recvS 0), .dma (recvS 1), .dma (recvS 2)] (by decide) (by decide)
    (fun s : SemLoc sig => (cred (tallyOn ((c : Thread nD τ), s) (launchCredit (Pipeline.owing owe0) 0 ((c : Thread nD τ), s))) : sProp 𝕄))
  refine BI.Entails.trans (bigSep_subset (Finset.subset_univ T)) ?_
  exact Entails.of_eq h

/-! ## The conditions of the launch -/

/-- A device's start from what the launch deals it. -/
theorem start_intro (c : Dev nD) :
    iprop(Pipeline.unscopedRestP Pipeline.Prefetch.none cfg0.spec c (fun b => m ((c : Thread nD τ).loc b)) ∗ levAts L lv
        ∗ Pipeline.launchCred owe0 c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

/-- The body's start from a device's start and its buffers. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

/-- The end gives back the buffers and the semaphores at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ zeros
  iintro ⟨⟨HzB, Hz⟩, Hr⟩
  isplitl [HzB]; · iexact HzB
  isplitl [Hz]; · iexact Hz
  iexists (ringBuf (ins m ρ) c); iexact Hr

/-- The pipeline's own waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the arrays hold in the end: the first five as at launch, the sixth the kernel's result. -/
def finalA (c : Dev nD) (w : Fin cfg0.W) : Buf (Elt F) ((cfg0.win w).arr.view.loc (c : Thread nD τ)) := (dats m ρ 0 c).arrAt w cfg0.N

/-- What the run is proved to end in: every array at its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all semaphores at zero, every fair run of the program on four devices ends, with every array
    at its final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owe0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays end as they began. -/
theorem finalA_in (c : Dev nD) (w : Fin 6) (hw : w ≠ 5) : finalA m ρ c w = (s₀ m ρ).mem ((cfg0.win w).arr.view.loc (c : Thread nD τ)) :=
  (dats (F := F) m ρ 0 c).arrAt_in w (by revert w; decide) _

end Cert.RingAttn

end
-- ==== Proof.Value.lean ====
/-
The kernel's result, read at an index over the extended reals.
-/
module

public import proofs.«01_k».proof.Proof.Attn
public import proofs.«01_k».proof.Proof.Launch
public import Idealize.ShloMosaic.Lib.Pointwise
public import Idealize.ShloMosaic.Lib.Layout

@[expose] public section

noncomputable section

namespace Cert.RingAttn

open Cert.KernelIdeal Cert.KernelIdeal.Gen
open Idealize.ShloMosaic
open Idealize.ShloMosaic.TcCoe
open scoped BigOperators

variable {F : FTy → Type} [FloatOps F]

/-! ## One head -/

/-- One head's attention, from its scaled products' row to its weighted values. -/
def headOf (mask : IVec S128x128 1) (q k v : FVec F S128x64 .bf16) : FVec F S128x64 .f32 :=
  have s : FVec F S128x128 .f32 := matmul dot_S128x64_S128x64_S128x128_1_1_0_0_n_n none q k (constant S128x128 .f32 0x00000000#32)
  have s1 : FVec F S128x128 .f32 := select mask (mulf s (broadcast S128x128 (Scalar.ofBits .f32 0x3E000000#32))) (broadcast S128x128 (Scalar.ofBits .f32 0xCE6E6B28#32))
  have m : FVec F S128 .f32 := multiReduction .maximumf [1] S128 s1 0xFF800000#32 reduces_S128x128_S128 (.inl rfl) rfl
  have w : FVec F S128x128 .f32 := exp (subf s1 (broadcastTo S128x128 (shapeCast S128x1 m shapeCasts_S128_S128x1) broadcasts_S128x1_S128x128))
  have n : FVec F S128 .f32 := multiReduction .add [1] S128 w 0x00000000#32 reduces_S128x128_S128 (.inl rfl) rfl
  have p : FVec F S128x128 .f32 := divf w (broadcastTo S128x128 (shapeCast S128x1 n shapeCasts_S128_S128x1) broadcasts_S128x1_S128x128)
  matmul dot_S128x128_S128x64_S128x64_1_0_0_1_n_n none (truncf .bf16 p bitsLt_bf16_f32) v (constant S128x64 .f32 0x00000000#32)

/-- Each head's queries lie within all of them. -/
theorem q_slices : ∀ h : Fin 4, S128x4x64.Slices ![0, h.val, 0] S128x1x64 := by decide

/-- The queries of the device's head `h`. -/
def qHead (q : FVec F S128x4x64 .f32) (h : Fin 4) : FVec F S128x64 .bf16 :=
  truncf .bf16 (shapeCast S128x64 (extractStridedSlice S128x1x64 ![0, h.val, 0] q (q_slices h)) shapeCasts_S128x1x64_S128x64) bitsLt_bf16_f32

/-- The device's head `h` of batch `b`. -/
def head (c : Dev nD) (I : Ins F) (b : Fin 2) (h : Fin 4) : FVec F S128x64 .f32 :=
  headOf msk (qHead (k0_pay10 (wqAt c I) (xAt I b)) h) (shapeCast S128x64 (kAt I b h) shapeCasts_S1x128x1x64_S128x64)
    (shapeCast S128x64 (vAt I b h) shapeCasts_S1x128x1x64_S128x64)

/-- The four heads of batch `b` side by side. -/
def ctx (c : Dev nD) (I : Ins F) (b : Fin 2) : FVec F S128x256 .f32 :=
  concatenate S128x256 1 [⟨S128x64, head c I b 0⟩, ⟨S128x64, head c I b 1⟩, ⟨S128x64, head c I b 2⟩, ⟨S128x64, head c I b 3⟩] concatenates_S128x64_S128x64_S128x64_S128x64_S128x256_d1

/-- The device's part of batch `b` of the result. -/
def part (c : Dev nD) (I : Ins F) (b : Fin 2) : FVec F S128x512 .f32 :=
  matmul dot_S128x256_S256x512_S128x512_1_0_0_1_n_n none (truncf .bf16 (ctx c I b) bitsLt_bf16_f32) (woAt c I) (constant S128x512 .f32 0x00000000#32)

/-- Batch 0 of the result is the part. -/
theorem st0_eq (c : Dev nD) (I : Ins F) : st0 c I = shapeCast S1x128x512 (part c I 0) shapeCasts_S128x512_S1x128x512 := rfl
/-- Batch 1 of the result is the part. -/
theorem st1_eq (c : Dev nD) (I : Ins F) : st1 c I = shapeCast S1x128x512 (part c I 1) shapeCasts_S128x512_S1x128x512 := rfl
/-- Batch 0 of what is sent is the part. -/
theorem sc0_eq (c : Dev nD) (I : Ins F) : sc0 c I = shapeCast S1x1x128x512 (truncf .bf16 (part c I 0) bitsLt_bf16_f32) shapeCasts_S128x512_S1x1x128x512 := rfl
/-- Batch 1 of what is sent is the part. -/
theorem sc1_eq (c : Dev nD) (I : Ins F) : sc1 c I = shapeCast S1x1x128x512 (truncf .bf16 (part c I 1) bitsLt_bf16_f32) shapeCasts_S128x512_S1x1x128x512 := rfl

/-! ## Read at an index -/

/-- One head is attention, index by index. -/
theorem headOf_apply (mask : IVec S128x128 1) (q k v : FVec Ideal S128x64 .bf16) (i : Fin 128) (d : Fin 64) :
    headOf mask q k v (ix2 i d) = attn (fun i j => mask (ix2 i j)) (fun i d => q (ix2 i d)) (fun i d => k (ix2 i d)) (fun i d => v (ix2 i d)) i d := by
  pointwise [headOf, attn, wt, sc]

/-- A head's queries at an index. -/
theorem qHead_apply (q : FVec Ideal S128x4x64 .f32) (h : Fin 4) (i : Fin 128) (d : Fin 64) :
    qHead q h (ix2 i d) = q (ix3 i h d) := by
  pointwise [qHead]

/-- All queries at an index: rows of `x` times columns of `Wq`. -/
theorem q_apply (wq : FVec Ideal S512x256 .bf16) (x : FVec Ideal S1x128x512 .bf16) (h : Fin 4) (i : Fin 128) (d : Fin 64) :
    k0_pay10 wq x (ix3 i h d) = ∑ e : Fin 512, x (ix3 0 i e) * wq (ix2 e (col h d)) := by
  pointwise [k0_pay10, col]

/-- The part at an index: the heads' row times a column of `Wo`. -/
theorem part_apply (c : Dev nD) (I : Ins Ideal) (b : Fin 2) (i : Fin 128) (o : Fin 512) :
    part c I b (ix2 i o) = ∑ n : Fin 256, ctx c I b (ix2 i n) * woAt c I (ix2 n o) := by
  pointwise [part]

/-- The four heads side by side, at a head's column. -/
theorem ctx_apply (c : Dev nD) (I : Ins Ideal) (b : Fin 2) (i : Fin 128) (h : Fin 4) (d : Fin 64) :
    ctx c I b (ix2 i (col h d)) = head c I b h (ix2 i d) := by
  pointwise [ctx, col]
  fin_cases h
  · rw [dif_pos (by show 0 * 64 + d.val < 64; omega)]
    exact congrArg (fun n => head c I b 0 (ix2 i n)) (Fin.ext (by show 0 * 64 + d.val = d.val; omega))
  · rw [dif_neg (by show ¬ (1 * 64 + d.val < 64); omega), dif_pos (by show 1 * 64 + d.val - 64 < 64; omega)]
    exact congrArg (fun n => head c I b 1 (ix2 i n)) (Fin.ext (by show 1 * 64 + d.val - 64 = d.val; omega))
  · rw [dif_neg (by show ¬ (2 * 64 + d.val < 64); omega), dif_neg (by show ¬ (2 * 64 + d.val - 64 < 64); omega), dif_pos (by show 2 * 64 + d.val - 64 - 64 < 64; omega)]
    exact congrArg (fun n => head c I b 2 (ix2 i n)) (Fin.ext (by show 2 * 64 + d.val - 64 - 64 = d.val; omega))
  · rw [dif_neg (by show ¬ (3 * 64 + d.val < 64); omega), dif_neg (by show ¬ (3 * 64 + d.val - 64 < 64); omega), dif_neg (by show ¬ (3 * 64 + d.val - 64 - 64 < 64); omega)]
    exact congrArg (fun n => head c I b 3 (ix2 i n)) (Fin.ext (by show 3 * 64 + d.val - 64 - 64 - 64 = d.val; omega))

/-- A query row's block number. -/
theorem qb_apply (i j : Fin 128) :
    k0_pay5 (iota .tc S128x128 32 [0] iota_S128x128_d0_w32) 64#32 k0_pay3 k0_pay4 (Scalar.extui (Scalar.cmpi .sgt 64#32 0#32)) (ix2 i j) = blk i := by
  pointwise [k0_pay5, k0_pay3, k0_pay4]
  revert i
  decide +kernel
/-- A key row's block number. -/
theorem kb_apply (i j : Fin 128) : k0_pay6 (ix2 i j) = blk j := by
  pointwise [k0_pay6]
  revert j
  decide +kernel
/-- The mask at a pair of rows. -/
theorem msk_apply  (i j : Fin 128) : msk (ix2 i j) = mk i j := by
  unfold msk mskA mskB
  pointwise [k0_pay9, k0_pay7, k0_pay8]
  rw [qb_apply, kb_apply]
  unfold blk mk
  split_ifs <;> first | rfl | omega

/-- The whole arrays a device reads, at an index. -/
def xs (I : Ins Ideal) (b : Fin 2) (i : Fin 128) (e : Fin 512) : EReal := I.x (ix3 b i e)
/-- `Wq` at an index. -/
def wqs (I : Ins Ideal) (e : Fin 512) (n : Fin 1024) : EReal := I.wq (ix2 e n)
/-- The keys at an index. -/
def ks (I : Ins Ideal) (b : Fin 2) (i : Fin 128) (h : Fin 4) (d : Fin 64) : EReal := I.k (ix4 b i h d)
/-- The values at an index. -/
def vs (I : Ins Ideal) (b : Fin 2) (i : Fin 128) (h : Fin 4) (d : Fin 64) : EReal := I.v (ix4 b i h d)
/-- `Wo` at an index. -/
def wos (I : Ins Ideal) (n : Fin 1024) (o : Fin 512) : EReal := I.wo (ix2 n o)

/-- A batch of `x` at an index. -/
theorem xAt_apply (I : Ins Ideal) (b : Fin 2) (i : Fin 128) (e : Fin 512) : xAt I b (ix3 0 i e) = xs I b i e := by
  refine congrArg I.x (funext fun a => ?_)
  fin_cases a <;> refine Fin.ext ?_
  · exact Nat.add_zero _
  · exact (Nat.zero_add _).trans (Nat.one_mul _)
  · exact (Nat.zero_add _).trans (Nat.one_mul _)
/-- A head's keys at an index. -/
theorem kAt_apply (I : Ins Ideal) (b : Fin 2) (h : Fin 4) (i : Fin 128) (d : Fin 64) :
    shapeCast S128x64 (kAt I b h) shapeCasts_S1x128x1x64_S128x64 (ix2 i d) = ks I b i h d := by
  pointwise
  refine congrArg I.k (funext fun a => ?_)
  fin_cases a <;> refine Fin.ext ?_
  · exact Nat.add_zero _
  · exact (Nat.zero_add _).trans (Nat.one_mul _)
  · exact Nat.add_zero _
  · exact (Nat.zero_add _).trans (Nat.one_mul _)
/-- A head's values at an index. -/
theorem vAt_apply (I : Ins Ideal) (b : Fin 2) (h : Fin 4) (i : Fin 128) (d : Fin 64) :
    shapeCast S128x64 (vAt I b h) shapeCasts_S1x128x1x64_S128x64 (ix2 i d) = vs I b i h d := by
  pointwise
  refine congrArg I.v (funext fun a => ?_)
  fin_cases a <;> refine Fin.ext ?_
  · exact Nat.add_zero _
  · exact (Nat.zero_add _).trans (Nat.one_mul _)
  · exact Nat.add_zero _
  · exact (Nat.zero_add _).trans (Nat.one_mul _)
/-- The device's columns begin at 256 times its number. -/
theorem off1 : ∀ c : Dev nD, k0_off1 c = ![0, 256 * c.val] := by decide +kernel
/-- The device's rows begin at 256 times its number. -/
theorem off2 : ∀ c : Dev nD, k0_off2 c = ![256 * c.val, 0] := by decide +kernel
/-- The device's columns of `Wq` at an index. -/
theorem wqAt_apply (c : Dev nD) (I : Ins Ideal) (e : Fin 512) (n : Fin 256) : wqAt c I (ix2 e n) = wqs I e (gcol c n) := by
  unfold wqAt
  pointwise [k0_pay1]
  refine congrArg I.wq (funext fun a => ?_)
  fin_cases a <;> refine Fin.ext ?_
  · refine (congrArg (· + 1 * e.val) (congrFun (off1 c) 0)).trans ((Nat.zero_add _).trans (Nat.one_mul _))
  · exact (congrArg (· + 1 * n.val) (congrFun (off1 c) 1)).trans (congrArg (256 * c.val + ·) (Nat.one_mul _))
/-- The device's rows of `Wo` at an index. -/
theorem woAt_apply (c : Dev nD) (I : Ins Ideal) (n : Fin 256) (o : Fin 512) : woAt c I (ix2 n o) = wos I (gcol c n) o := by
  unfold woAt
  pointwise [k0_pay2]
  refine congrArg I.wo (funext fun a => ?_)
  fin_cases a <;> refine Fin.ext ?_
  · exact (congrArg (· + 1 * n.val) (congrFun (off2 c) 0)).trans (congrArg (256 * c.val + ·) (Nat.one_mul _))
  · refine (congrArg (· + 1 * o.val) (congrFun (off2 c) 1)).trans ((Nat.zero_add _).trans (Nat.one_mul _))

/-- A head of the device at an index, from the arrays. -/
theorem head_apply (c : Dev nD) (I : Ins Ideal) (b : Fin 2) (h : Fin 4) (i : Fin 128) (d : Fin 64) :
    head c I b h (ix2 i d) = attn mk (fun i d => ∑ e : Fin 512, xs I b i e * wqs I e (gcol c (col h d)))
      (fun i d => ks I b i h d) (fun i d => vs I b i h d) i d := by
  refine (headOf_apply _ _ _ _ i d).trans (congrFun (congrFun ?_ i) d)
  refine congr (congr (congr (congrArg attn (funext₂ msk_apply)) (funext₂ fun i d => ?_)) (funext₂ (kAt_apply I b h))) (funext₂ (vAt_apply I b h))
  rw [qHead_apply, q_apply]
  simp only [xAt_apply, wqAt_apply]

/-! ## A device's part, and the sum around the ring -/

/-- A device's own result is its part. -/
theorem own_apply (c : Dev nD) (I : Ins Ideal) (b : Fin 2) (i : Fin 128) (o : Fin 512) :
    ownOut c I (ix3 b i o) = part c I b (ix2 i o) := by
  fin_cases b
  · show st0 c I (ValueIdx.ix3 0 i o) = _
    rw [← ix3_eq_valueIdx, st0_eq]
    pointwise
  · show st1 c I (ValueIdx.ix3 0 i o) = _
    rw [← ix3_eq_valueIdx, st1_eq]
    pointwise

/-- Slot `k` holds the part of the device `k` places to the left. -/
theorem ringBuf_apply (I : Dev nD → Ins Ideal) (c : Dev nD) (k : Fin 4) (b : Fin 2) (i : Fin 128) (o : Fin 512) :
    ringBuf I c (ix4 k b i o) = part (back c k) (I (back c k)) b (ix2 i o) := by
  fin_cases b
  · show sc0 (back c k) (I (back c k)) (ValueIdx.ix4 0 0 i o) = _
    rw [← ix4_eq_valueIdx, sc0_eq]
    pointwise
  · show sc1 (back c k) (I (back c k)) (ValueIdx.ix4 0 0 i o) = _
    rw [← ix4_eq_valueIdx, sc1_eq]
    pointwise

/-- And so it is read. -/
theorem got_apply (I : Dev nD → Ins Ideal) (c : Dev nD) (k : Fin 4) (b : Fin 2) (i : Fin 128) (o : Fin 512) :
    got I c k (ix4 0 b i o) = part (back c k) (I (back c k)) b (ix2 i o) := by
  rw [← ringBuf_apply]
  refine congrArg (ringBuf I c) (funext fun a => ?_)
  fin_cases a <;> refine Fin.ext ?_
  · exact Nat.add_zero _
  · exact (Nat.zero_add _).trans (Nat.one_mul _)
  · exact (Nat.zero_add _).trans (Nat.one_mul _)
  · exact (Nat.zero_add _).trans (Nat.one_mul _)

/-- A device's value and its three predecessors' are the four devices' values. -/
theorem ring_sum (P : Dev nD → EReal) (c : Dev nD) : P c + P (back c 1) + P (back c 2) + P (back c 3) = ∑ c' : Dev nD, P c' := by
  refine Eq.trans ?_ (Fin.sum_univ_four P).symm
  fin_cases c
  · show P 0 + P 3 + P 2 + P 1 = _; ac_rfl
  · show P 1 + P 0 + P 3 + P 2 = _; ac_rfl
  · show P 2 + P 1 + P 0 + P 3 = _; ac_rfl
  · show P 3 + P 2 + P 1 + P 0 = _; ac_rfl

/-- The result is the sum of all devices' parts. -/
theorem sum3_apply (I : Dev nD → Ins Ideal) (c : Dev nD) (b : Fin 2) (i : Fin 128) (o : Fin 512) :
    sum3 I c (ix3 b i o) = ∑ c' : Dev nD, part c' (I c') b (ix2 i o) := by
  pointwise [sum3, sum2, sum1, k0_pay29, k0_pay30, k0_pay31, k0_pay32]
  rw [own_apply, got_apply, got_apply, got_apply]
  exact ring_sum (fun c' => part c' (I c') b (ix2 i o)) c

/-! ## The arrays as a device has them -/

section Arrays
variable (m : (ℓ : Loc nD τ sig) → Buf (Elt F) ℓ) (ρ : Dev nD → PrngReg) (c : Dev nD)

/-- The staged `x` is the argument. -/
theorem ins_x : (ins m ρ c).x = m ((c.tc : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) (m ((c.tc : Thread nD τ).loc main_arg0))
/-- The staged `Wq` is the argument. -/
theorem ins_wq : (ins m ρ c).wq = m ((c.tc : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) (m ((c.tc : Thread nD τ).loc main_arg1))
/-- The staged keys are the argument. -/
theorem ins_k : (ins m ρ c).k = m ((c.tc : Thread nD τ).loc main_arg2) := by
  have hz : (fun a => (win0_2.index (0 : Fin 1)) a * main_arg2.ty.shape.size a) = fun _ => 0 := funext fun a => by fin_cases a <;> decide
  exact Memref.read_access_unit_zero (Elt F) main_arg2 hz (fun a => by fin_cases a <;> decide) (m ((c.tc : Thread nD τ).loc main_arg2))
/-- The staged values are the argument. -/
theorem ins_v : (ins m ρ c).v = m ((c.tc : Thread nD τ).loc main_arg3) := by
  have hz : (fun a => (win0_3.index (0 : Fin 1)) a * main_arg3.ty.shape.size a) = fun _ => 0 := funext fun a => by fin_cases a <;> decide
  exact Memref.read_access_unit_zero (Elt F) main_arg3 hz (fun a => by fin_cases a <;> decide) (m ((c.tc : Thread nD τ).loc main_arg3))
/-- The staged `Wo` is the argument. -/
theorem ins_wo : (ins m ρ c).wo = m ((c.tc : Thread nD τ).loc main_arg4) := by
  have hz : (fun a => (win0_4.index (0 : Fin 1)) a * main_arg4.ty.shape.size a) = fun _ => 0 := funext fun a => by fin_cases a <;> decide
  exact Memref.read_access_unit_zero (Elt F) main_arg4 hz (fun a => by fin_cases a <;> decide) (m ((c.tc : Thread nD τ).loc main_arg4))

/-- A device's result array ends holding what its body wrote. -/
theorem finalA_out : finalA m ρ c 5 = sum3 (ins m ρ) c := by
  have hz : (fun a => (win0_5.index (0 : Fin 1)) a * main_v1.ty.shape.size a) = fun _ => 0 := funext fun a => by fin_cases a <;> decide
  have hr := Memref.read_access_unit_zero (Elt F) main_v1 hz (fun a => by fin_cases a <;> decide) (finalA m ρ c 5)
  refine hr.symm.trans ?_
  show (win0_5.blk (0 : Fin 1)).view.read (Elt F) (finalA m ρ c 5) = outAt m ρ c
  unfold finalA
  rw [show cfg0.N = ((0 : Fin 1) : Fin cfg0.N).val + 1 from rfl, (dats m ρ 0 c).arrAt_succ 5 (0 : Fin 1)]
  rw [show (cfg0.win 5).flush (0 : Fin 1) = true from by decide, if_pos rfl]
  exact View.read_write_univ _ _

end Arrays

/-- A device's block of an array of sixteen heads holds its four. -/
theorem block_apply (c : Fin 4) (v : (⟨4, ![2, 128, 16, 64]⟩ : Shape).Idx → EReal) (b : Fin 2) (i : Fin 128) (h : Fin 4) (d : Fin 64) :
    Layout.block ⟨4, ![2, 128, 4, 64]⟩ ⟨4, ![2, 128, 16, 64]⟩ 2 4 c v (by decide) (ix4 b i h d) = v (ix4 b i (ghead c h) d) := by
  refine congrArg v (funext fun a => ?_)
  fin_cases a <;> rfl

section Whole
variable (x : Fin 2 → Fin 128 → Fin 512 → EReal) (wq : Fin 512 → Fin 1024 → EReal) (k v : Fin 2 → Fin 128 → Fin 16 → Fin 64 → EReal)
  (wo : Fin 1024 → Fin 512 → EReal)

/-- What a device's arrays hold of the whole ones: all of them but the keys and values, of which it has its own four heads. -/
structure Holds (c : Dev nD) (I : Ins Ideal) : Prop where
  x : ∀ b i e, xs I b i e = x b i e
  wq : ∀ e n, wqs I e n = wq e n
  k : ∀ b i h d, ks I b i h d = k b i (ghead c h) d
  v : ∀ b i h d, vs I b i h d = v b i (ghead c h) d
  wo : ∀ n o, wos I n o = wo n o

/-- A device's part is its four heads' part of the whole. -/
theorem part_eq (c : Dev nD) (I : Ins Ideal) (h : Holds x wq k v wo c I) (b : Fin 2) (i : Fin 128) (o : Fin 512) :
    part c I b (ix2 i o) = devOut x wq k v wo b i o c := by
  rw [part_apply, sum_runs (m := 4) (n := 64) rfl _ col fun _ _ => rfl]
  refine Finset.sum_congr rfl fun a _ => Finset.sum_congr rfl fun d _ => ?_
  rw [ctx_apply, head_apply, woAt_apply, gcol_col, h.wo]
  simp only [h.x, h.wq, h.k, h.v, gcol_col]
  rfl

/-- The result on every device is the whole. -/
theorem sum3_eq (I : Dev nD → Ins Ideal) (h : ∀ c, Holds x wq k v wo c (I c)) (c : Dev nD) (b : Fin 2) (i : Fin 128) (o : Fin 512) :
    sum3 I c (ix3 b i o) = whole x wq k v wo b i o := by
  rw [sum3_apply, whole_eq_sum]
  exact Finset.sum_congr rfl fun c' _ => part_eq x wq k v wo c' (I c') (h c') b i o

end Whole

end Cert.RingAttn

end
-- ==== Proof.Ref.lean ====
/-
The reference's result, read at an index over the extended reals.
-/
module

public import proofs.«01_k».proof.Proof.Gen.ReferenceIdeal.Read
public import proofs.«01_k».proof.Proof.Attn

@[expose] public section

noncomputable section

namespace Cert.RingAttn.Ref

open Cert.ReferenceIdeal Cert.ReferenceIdeal.Gen Cert.ReferenceIdeal.Read
open Idealize.ShloMosaic
open Idealize.ShloMosaic.TcCoe
open scoped BigOperators
variable (x0 : (⟨S2x128x512, .bf16⟩ : BufTy).Contents (Elt Ideal)) (x1 : (⟨S512x1024, .bf16⟩ : BufTy).Contents (Elt Ideal))
  (x2 x3 : (⟨S2x128x16x64, .bf16⟩ : BufTy).Contents (Elt Ideal)) (x4 : (⟨S1024x512, .bf16⟩ : BufTy).Contents (Elt Ideal))

/-- The five arrays at an index. -/
def xs (b : Fin 2) (i : Fin 128) (e : Fin 512) : EReal := x0 (ix3 b i e)
/-- The second array at an index. -/
def wqs (e : Fin 512) (n : Fin 1024) : EReal := x1 (ix2 e n)
/-- The third or fourth array at an index. -/
def ks (b : Fin 2) (i : Fin 128) (h : Fin 16) (d : Fin 64) : EReal := x2 (ix4 b i h d)
/-- The fifth array at an index. -/
def wos (n : Fin 1024) (o : Fin 512) : EReal := x4 (ix2 n o)

/-- A query before its scores are taken. -/
def qs (b : Fin 2) (h : Fin 16) (i : Fin 128) (d : Fin 64) : EReal := ∑ e : Fin 512, xs x0 b i e * wqs x1 e (full h d)

/-- The queries at an index. -/
theorem q_apply (b : Fin 2) (i : Fin 128) (h : Fin 16) (d : Fin 64) :
    val_main_v6 x0 x1 (ix4 b i h d) = qs x0 x1 b h i d := by
  pointwise [val_main_v6, val_main_v5, val_main_v0, val_main_v1]
  rfl
/-! ## The mask -/

/-- A query row's block number. -/
theorem qb_apply (i : Fin 128) : val_main_v8 (F := Ideal) (ix1 i) = blk i := by
  pointwise [val_main_v8, val_main_call0_v13, val_main_call0_v12, val_main_call0_c_0, val_main_call0_v11, val_main_call0_v10, val_main_call0_v9,
    val_main_call0_c, val_main_call0_v8, val_main_call0_v7, val_main_call0_v6, val_main_call0_v5, val_main_call0_v4, val_main_call0_v3, val_main_call0_v2,
    val_main_call0_v1, val_main_call0_v0, val_main_c, val_main_v7]
  rw [show id (constantI S_ 32 64#32) ix0 = 64#32 from rfl]
  revert i
  decide +kernel
/-- A key row's block number. -/
theorem kb_apply (i : Fin 128) : val_main_v11 (F := Ideal) (ix1 i) = blk i := qb_apply i
/-- The mask from a pair's two block numbers. -/
theorem v26_apply (i j : Fin 128) : val_main_v26 (F := Ideal) (ix2 i j) = mk i j := by
  pointwise [val_main_v26, val_main_v25, val_main_v24, val_main_c_3, val_main_v23, val_main_call2_v14, val_main_call2_v13, val_main_call2_v12,
    val_main_call2_v11, val_main_call2_v10, val_main_call2_v9, val_main_call2_c_3, val_main_call2_v8, val_main_call2_v7, val_main_call2_c_2,
    val_main_call2_v6, val_main_call2_v5, val_main_call2_c_1, val_main_call2_v4, val_main_call2_v3, val_main_call2_v2, val_main_call2_v1, val_main_call2_v0,
    val_main_call2_c_0, val_main_call2_c, val_main_c_2, val_main_v22, val_main_v21, val_main_v20, val_main_v19, val_main_v18, val_main_v17, val_main_v16,
    val_main_c_1, val_main_v15, val_main_v14, val_main_v13, val_main_v12, val_main_v9]
  rw [show id (constantI S_ 32 3#32) ix0 = 3#32 from rfl, qb_apply, kb_apply]
  unfold blk mk
  split_ifs <;> first | rfl | omega
/-- Every row is allowed some key: the first. -/
theorem v37_apply (i : Fin 128) : val_main_v37 (F := Ideal) (ix1 i) = 1#1 := by
  pointwise [val_main_v37, val_main_c_6]
  rw [← Finset.insert_erase (Finset.mem_univ (0 : Fin 128)), Finset.fold_insert (Finset.notMem_erase _ _), v26_apply,
    show mk i 0 = 1#1 from if_neg fun h => absurd h.2 (by decide)]
  generalize Finset.fold IntOp.ori (0#1) (fun x => val_main_v26 (F := Ideal) (ix2 i x)) (Finset.univ.erase 0) = z
  revert z
  decide

/-! ## One head -/

/-- The masked scores at an index. -/
theorem s_apply (b : Fin 2) (i : Fin 128) (h : Fin 16) (j : Fin 128) :
    val_main_v31 x0 x1 x2 (ix4 b h i j) = sc mk (qs x0 x1 b h) (fun i d => ks x2 b i h d) i j := by
  pointwise [val_main_v31, val_main_call3_v2, val_main_call3_v1, val_main_call3_v0, val_main_cst_4, val_main_v30, val_main_v29, val_main_v28, val_main_cst, val_main_v27, val_main_v2]
  rw [v26_apply]
  simp only [q_apply]
  rfl
/-- The weights before they are normalized, at an index. -/
theorem w_apply (b : Fin 2) (i : Fin 128) (h : Fin 16) (j : Fin 128) :
    val_main_v36 x0 x1 x2 (ix4 b h i j) = wt mk (qs x0 x1 b h) (fun i d => ks x2 b i h d) i j := by
  pointwise [val_main_v36, val_main_v35, val_main_v34, val_main_v33, val_main_v32, val_main_cst_5]
  simp only [s_apply]
  rfl
/-- The weights at an index. -/
theorem p_apply (b : Fin 2) (i : Fin 128) (h : Fin 16) (j : Fin 128) :
    val_main_v45 x0 x1 x2 (ix4 b h i j) = Ideal.div (wt mk (qs x0 x1 b h) (fun i d => ks x2 b i h d) i j)
      (∑ j' : Fin 128, wt mk (qs x0 x1 b h) (fun i d => ks x2 b i h d) i j') := by
  pointwise [val_main_v45, val_main_call5_v2, val_main_call5_v1, val_main_call5_v0, val_main_cst_9, val_main_v44, val_main_v43, val_main_v42, val_main_v41,
    val_main_call4_v2, val_main_call4_v1, val_main_call4_v0, val_main_cst_8, val_main_v40, val_main_v39, val_main_cst_7, val_main_v38]
  simp only [v37_apply, w_apply]
  rfl
/-- The heads' results side by side, at a head's column. -/
theorem c_apply (b : Fin 2) (i : Fin 128) (h : Fin 16) (d : Fin 64) :
    val_main_v48 x0 x1 x2 x3 (ix3 b i (full h d)) = headVal (xs x0) (wqs x1) (ks x2) (ks x3) b h i d := by
  pointwise [val_main_v48, val_main_v47, val_main_v46, val_main_v3]
  rw [show (⟨(full h d).val / 64, by have := h.isLt; have := d.isLt; show (h.val * 64 + d.val) / 64 < 16; omega⟩ : Fin 16) = h from
      Fin.ext (show (h.val * 64 + d.val) / 64 = h.val by have := d.isLt; omega),
    show (⟨(full h d).val % 64, Nat.mod_lt _ (by decide)⟩ : Fin 64) = d from
      Fin.ext (show (h.val * 64 + d.val) % 64 = d.val by have := d.isLt; omega)]
  simp only [p_apply]
  exact Finset.sum_congr rfl fun j _ => mul_comm _ _

/-! ## The result -/

/-- The reference's result is the whole. -/
theorem o_apply (b : Fin 2) (i : Fin 128) (o : Fin 512)  :
    val_main_v49 x0 x1 x2 x3 x4 (ix3 b i o) = whole (xs x0) (wqs x1) (ks x2) (ks x3) (wos x4) b i o := by
  pointwise [val_main_v49, val_main_v4]
  rw [sum_runs (m := 16) (n := 64) rfl _ full fun _ _ => rfl]
  simp only [c_apply]
  rfl

end Cert.RingAttn.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Value
public import proofs.«01_k».proof.Proof.Ref
public import Idealize.ShloMosaic.Adequacy
public import Idealize.ShloMosaic.Init

@[expose] public section

noncomputable section

namespace Cert.Proof

open Idealize.ShloMosaic Idealize.SL.Sem Cert.Kernel

/-- Over any float values the program's run ends with its arguments unchanged and every semaphore at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run Cert.KernelIdeal.defs _ _).mono
    (fun _ h => ⟨fun c => ⟨(h.1 c 0).trans (RingAttn.finalA_in m ρ c 0 (by decide)), (h.1 c 1).trans (RingAttn.finalA_in m ρ c 1 (by decide)),
      (h.1 c 2).trans (RingAttn.finalA_in m ρ c 2 (by decide)), (h.1 c 3).trans (RingAttn.finalA_in m ρ c 3 (by decide)),
      (h.1 c 4).trans (RingAttn.finalA_in m ρ c 4 (by decide))⟩, h.2⟩)
    (RingAttn.run_main m ρ)

/-- The two programs' body tables are the same, label by label. -/
theorem bodies_eq : (Cert.Kernel.defs₀ (F := Bits)) = (Cert.KernelIdeal.defs₀ (F := Bits)) := by
  unfold Cert.Kernel.defs₀ Cert.KernelIdeal.defs₀
  refine congrArg (Defs.onTc (nD := Cert.KernelIdeal.nD) (τ := Cert.KernelIdeal.τ) (sig := Cert.KernelIdeal.sig) (Val := Elt Bits) (Λ := Cert.KernelIdeal.Λ₀)) ?_
  funext l a
  match l, a with
  | (0 : Fin 1), (t, s) => rfl

/-- And so are the tables with the pipeline's own labels. -/
theorem defs_eq : (Cert.Kernel.defs (F := Bits)) = (Cert.KernelIdeal.defs (F := Bits)) :=
  congrArg (Pipeline.defs (Cert.KernelIdeal.pcfgs (F := Bits))) bodies_eq

/-- The program run at the bit-exact instance. -/
theorem frame_kernel : Cert.quiescent_Kernel := fun m ρ _ => by
  have h := frame_any (F := Bits) m ρ
  rw [← defs_eq] at h
  exact h

/-- The program run over the extended reals. -/
theorem frame_ideal : Cert.quiescent_KernelIdeal := fun m ρ _ => frame_any (F := Ideal) m ρ

/-- The reference's run ends with its arguments unchanged; it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over the extended reals every device's result is the reference's. -/
theorem algebraic : Cert.algebraic_KernelIdeal_ReferenceIdeal := by
  intro m ρ m' ρ' _ hagree
  refine ⟨_, ?_, (θ_run Cert.ReferenceIdeal.defs _ _).mono
    (fun _ h => ⟨((h 0).1.trans (Cert.ReferenceIdeal.Read.val_main_v49_eq m' 0)), (h 0).2⟩) (Cert.ReferenceIdeal.Value.run (F := Ideal) m' ρ')⟩
  refine (θ_run Cert.KernelIdeal.defs _ _).mono
    (fun _ h c => ⟨(h.1 c 5).trans ?_, (h.1 c 0).trans (RingAttn.finalA_in m ρ c 0 (by decide)), (h.1 c 1).trans (RingAttn.finalA_in m ρ c 1 (by decide)),
      (h.1 c 2).trans (RingAttn.finalA_in m ρ c 2 (by decide)), (h.1 c 3).trans (RingAttn.finalA_in m ρ c 3 (by decide)),
      (h.1 c 4).trans (RingAttn.finalA_in m ρ c 4 (by decide))⟩)
    (RingAttn.run_main (F := Ideal) m ρ)
  refine (RingAttn.finalA_out m ρ c).trans (funext fun (j : Cert.KernelIdeal.S2x128x512.Idx) => ?_)
  rw [show j = ix3 (j 0) (j 1) (j 2) from eq_ix3 j]
  refine (RingAttn.sum3_eq _ _ _ _ _ (RingAttn.ins m ρ) (fun c => ?_) c (j 0) (j 1) (j 2)).trans (RingAttn.Ref.o_apply _ _ _ _ _ (j 0) (j 1) (j 2)).symm
  obtain ⟨h0, h1, h2, h3, h4⟩ := hagree c
  exact {
    x := fun b i e => (congrFun (RingAttn.ins_x m ρ c) _).trans (congrFun h0 _)
    wq := fun e n => (congrFun (RingAttn.ins_wq m ρ c) _).trans (congrFun h1 _)
    k := fun b i h d => (congrFun (RingAttn.ins_k m ρ c) _).trans ((congrFun h2 _).trans (RingAttn.block_apply c _ b i h d))
    v := fun b i h d => (congrFun (RingAttn.ins_v m ρ c) _).trans ((congrFun h3 _).trans (RingAttn.block_apply c _ b i h d))
    wo := fun n o => (congrFun (RingAttn.ins_wo m ρ c) _).trans (congrFun h4 _) }

/-- Everything claimed. -/
theorem claim : Cert.Claim := ⟨Cert.Kernel.Gen.facts, Cert.KernelIdeal.Gen.facts, Cert.ReferenceIdeal.Gen.facts,
  frame_kernel, frame_ideal, frame_reference, trivial, algebraic⟩

end Cert.Proof

end
